-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![65536, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S16x1024 : Shape := ⟨2, ![16, 1024]⟩
abbrev S16 : Shape := ⟨1, ![16]⟩
abbrev S_ : Shape := ⟨0, ![]⟩
abbrev S1 : Shape := ⟨1, ![1]⟩
abbrev S256x1024 : Shape := ⟨2, ![256, 1024]⟩
abbrev S128x128 : Shape := ⟨2, ![128, 128]⟩
abbrev S1024 : Shape := ⟨1, ![1024]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .f32⟩
  | .local _ .vmem, ⟨1, _⟩ => ⟨S4096x1024, .bf16⟩
  | .local _ .vmem, ⟨2, _⟩ => ⟨S1x1024, .f32⟩
  | .local _ .vmem, ⟨3, _⟩ => ⟨S16x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_663 : BitVec 32 := 0#32
  let c0_i32_661 : BitVec 32 := 0#32
  let c1_i32_662 : BitVec 32 := 1#32
  let v974 : BitVec 32 := Scalar.muli c0_i32_661 c1_i32_662
  let v975 : BitVec 32 := Scalar.addi c0_i32_663 v974
  v975.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_663 : BitVec 32 := 0#32
  let c1_i32_661 : BitVec 32 := 1#32
  let c1_i32_662 : BitVec 32 := 1#32
  let v974 : BitVec 32 := Scalar.muli c1_i32_661 c1_i32_662
  let v975 : BitVec 32 := Scalar.addi c0_i32_663 v974
  v975.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_663 : BitVec 32 := 0#32
  let c2_i32_661 : BitVec 32 := 2#32
  let c1_i32_662 : BitVec 32 := 1#32
  let v974 : BitVec 32 := Scalar.muli c2_i32_661 c1_i32_662
  let v975 : BitVec 32 := Scalar.addi c0_i32_663 v974
  v975.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_663 : BitVec 32 := 0#32
  let c3_i32_661 : BitVec 32 := 3#32
  let c1_i32_662 : BitVec 32 := 1#32
  let v974 : BitVec 32 := Scalar.muli c3_i32_661 c1_i32_662
  let v975 : BitVec 32 := Scalar.addi c0_i32_663 v974
  v975.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_663 : BitVec 32 := 0#32
  let c4_i32_661 : BitVec 32 := 4#32
  let c1_i32_662 : BitVec 32 := 1#32
  let v974 : BitVec 32 := Scalar.muli c4_i32_661 c1_i32_662
  let v975 : BitVec 32 := Scalar.addi c0_i32_663 v974
  v975.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_663 : BitVec 32 := 0#32
  let c5_i32_661 : BitVec 32 := 5#32
  let c1_i32_662 : BitVec 32 := 1#32
  let v974 : BitVec 32 := Scalar.muli c5_i32_661 c1_i32_662
  let v975 : BitVec 32 := Scalar.addi c0_i32_663 v974
  v975.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_663 : BitVec 32 := 0#32
  let c6_i32_661 : BitVec 32 := 6#32
  let c1_i32_662 : BitVec 32 := 1#32
  let v974 : BitVec 32 := Scalar.muli c6_i32_661 c1_i32_662
  let v975 : BitVec 32 := Scalar.addi c0_i32_663 v974
  v975.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_663 : BitVec 32 := 0#32
  let c7_i32_661 : BitVec 32 := 7#32
  let c1_i32_662 : BitVec 32 := 1#32
  let v974 : BitVec 32 := Scalar.muli c7_i32_661 c1_i32_662
  let v975 : BitVec 32 := Scalar.addi c0_i32_663 v974
  v975.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_663 : BitVec 32 := 0#32
  let c8_i32_661 : BitVec 32 := 8#32
  let c1_i32_662 : BitVec 32 := 1#32
  let v974 : BitVec 32 := Scalar.muli c8_i32_661 c1_i32_662
  let v975 : BitVec 32 := Scalar.addi c0_i32_663 v974
  v975.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_663 : BitVec 32 := 0#32
  let c9_i32_661 : BitVec 32 := 9#32
  let c1_i32_662 : BitVec 32 := 1#32
  let v974 : BitVec 32 := Scalar.muli c9_i32_661 c1_i32_662
  let v975 : BitVec 32 := Scalar.addi c0_i32_663 v974
  v975.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_663 : BitVec 32 := 0#32
  let c10_i32_661 : BitVec 32 := 10#32
  let c1_i32_662 : BitVec 32 := 1#32
  let v974 : BitVec 32 := Scalar.muli c10_i32_661 c1_i32_662
  let v975 : BitVec 32 := Scalar.addi c0_i32_663 v974
  v975.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_663 : BitVec 32 := 0#32
  let c11_i32_661 : BitVec 32 := 11#32
  let c1_i32_662 : BitVec 32 := 1#32
  let v974 : BitVec 32 := Scalar.muli c11_i32_661 c1_i32_662
  let v975 : BitVec 32 := Scalar.addi c0_i32_663 v974
  v975.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_663 : BitVec 32 := 0#32
  let c12_i32_661 : BitVec 32 := 12#32
  let c1_i32_662 : BitVec 32 := 1#32
  let v974 : BitVec 32 := Scalar.muli c12_i32_661 c1_i32_662
  let v975 : BitVec 32 := Scalar.addi c0_i32_663 v974
  v975.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_663 : BitVec 32 := 0#32
  let c13_i32_661 : BitVec 32 := 13#32
  let c1_i32_662 : BitVec 32 := 1#32
  let v974 : BitVec 32 := Scalar.muli c13_i32_661 c1_i32_662
  let v975 : BitVec 32 := Scalar.addi c0_i32_663 v974
  v975.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_663 : BitVec 32 := 0#32
  let c14_i32_661 : BitVec 32 := 14#32
  let c1_i32_662 : BitVec 32 := 1#32
  let v974 : BitVec 32 := Scalar.muli c14_i32_661 c1_i32_662
  let v975 : BitVec 32 := Scalar.addi c0_i32_663 v974
  v975.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_663 : BitVec 32 := 0#32
  let c15_i32_661 : BitVec 32 := 15#32
  let c1_i32_662 : BitVec 32 := 1#32
  let v974 : BitVec 32 := Scalar.muli c15_i32_661 c1_i32_662
  let v975 : BitVec 32 := Scalar.addi c0_i32_663 v974
  v975.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_333 : BitVec 32 := 1#32
  let v586 : BitVec 1 := Scalar.cmpi .slt v2 c1_i32_333
  let v587 : BitVec 32 := Scalar.extui v586
  let c0_i32_334 : BitVec 32 := 0#32
  let v588 : BitVec 1 := Scalar.cmpi .ne v587 c0_i32_334
  v588

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev17 : Nat :=
  let c0_i32_664 : BitVec 32 := 0#32
  let c1_i32_662 : BitVec 32 := 1#32
  let c1_i32_663 : BitVec 32 := 1#32
  let v974 : BitVec 32 := Scalar.muli c1_i32_662 c1_i32_663
  let v975 : BitVec 32 := Scalar.addi c0_i32_664 v974
  v975.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_335 : BitVec 32 := 2#32
  let v589 : BitVec 1 := Scalar.cmpi .slt v2 c2_i32_335
  let v590 : BitVec 32 := Scalar.extui v589
  let c0_i32_336 : BitVec 32 := 0#32
  let v591 : BitVec 1 := Scalar.cmpi .ne v590 c0_i32_336
  v591

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev18 : Nat :=
  let c0_i32_664 : BitVec 32 := 0#32
  let c2_i32_662 : BitVec 32 := 2#32
  let c1_i32_663 : BitVec 32 := 1#32
  let v974 : BitVec 32 := Scalar.muli c2_i32_662 c1_i32_663
  let v975 : BitVec 32 := Scalar.addi c0_i32_664 v974
  v975.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_337 : BitVec 32 := 3#32
  let v592 : BitVec 1 := Scalar.cmpi .slt v2 c3_i32_337
  let v593 : BitVec 32 := Scalar.extui v592
  let c0_i32_338 : BitVec 32 := 0#32
  let v594 : BitVec 1 := Scalar.cmpi .ne v593 c0_i32_338
  v594

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev19 : Nat :=
  let c0_i32_664 : BitVec 32 := 0#32
  let c3_i32_662 : BitVec 32 := 3#32
  let c1_i32_663 : BitVec 32 := 1#32
  let v974 : BitVec 32 := Scalar.muli c3_i32_662 c1_i32_663
  let v975 : BitVec 32 := Scalar.addi c0_i32_664 v974
  v975.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_339 : BitVec 32 := 4#32
  let v595 : BitVec 1 := Scalar.cmpi .slt v2 c4_i32_339
  let v596 : BitVec 32 := Scalar.extui v595
  let c0_i32_340 : BitVec 32 := 0#32
  let v597 : BitVec 1 := Scalar.cmpi .ne v596 c0_i32_340
  v597

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev20 : Nat :=
  let c0_i32_664 : BitVec 32 := 0#32
  let c4_i32_662 : BitVec 32 := 4#32
  let c1_i32_663 : BitVec 32 := 1#32
  let v974 : BitVec 32 := Scalar.muli c4_i32_662 c1_i32_663
  let v975 : BitVec 32 := Scalar.addi c0_i32_664 v974
  v975.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_341 : BitVec 32 := 5#32
  let v598 : BitVec 1 := Scalar.cmpi .slt v2 c5_i32_341
  let v599 : BitVec 32 := Scalar.extui v598
  let c0_i32_342 : BitVec 32 := 0#32
  let v600 : BitVec 1 := Scalar.cmpi .ne v599 c0_i32_342
  v600

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev21 : Nat :=
  let c0_i32_664 : BitVec 32 := 0#32
  let c5_i32_662 : BitVec 32 := 5#32
  let c1_i32_663 : BitVec 32 := 1#32
  let v974 : BitVec 32 := Scalar.muli c5_i32_662 c1_i32_663
  let v975 : BitVec 32 := Scalar.addi c0_i32_664 v974
  v975.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_343 : BitVec 32 := 6#32
  let v601 : BitVec 1 := Scalar.cmpi .slt v2 c6_i32_343
  let v602 : BitVec 32 := Scalar.extui v601
  let c0_i32_344 : BitVec 32 := 0#32
  let v603 : BitVec 1 := Scalar.cmpi .ne v602 c0_i32_344
  v603

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev22 : Nat :=
  let c0_i32_664 : BitVec 32 := 0#32
  let c6_i32_662 : BitVec 32 := 6#32
  let c1_i32_663 : BitVec 32 := 1#32
  let v974 : BitVec 32 := Scalar.muli c6_i32_662 c1_i32_663
  let v975 : BitVec 32 := Scalar.addi c0_i32_664 v974
  v975.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_345 : BitVec 32 := 7#32
  let v604 : BitVec 1 := Scalar.cmpi .slt v2 c7_i32_345
  let v605 : BitVec 32 := Scalar.extui v604
  let c0_i32_346 : BitVec 32 := 0#32
  let v606 : BitVec 1 := Scalar.cmpi .ne v605 c0_i32_346
  v606

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev23 : Nat :=
  let c0_i32_664 : BitVec 32 := 0#32
  let c7_i32_662 : BitVec 32 := 7#32
  let c1_i32_663 : BitVec 32 := 1#32
  let v974 : BitVec 32 := Scalar.muli c7_i32_662 c1_i32_663
  let v975 : BitVec 32 := Scalar.addi c0_i32_664 v974
  v975.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_347 : BitVec 32 := 8#32
  let v607 : BitVec 1 := Scalar.cmpi .slt v2 c8_i32_347
  let v608 : BitVec 32 := Scalar.extui v607
  let c0_i32_348 : BitVec 32 := 0#32
  let v609 : BitVec 1 := Scalar.cmpi .ne v608 c0_i32_348
  v609

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev24 : Nat :=
  let c0_i32_664 : BitVec 32 := 0#32
  let c8_i32_662 : BitVec 32 := 8#32
  let c1_i32_663 : BitVec 32 := 1#32
  let v974 : BitVec 32 := Scalar.muli c8_i32_662 c1_i32_663
  let v975 : BitVec 32 := Scalar.addi c0_i32_664 v974
  v975.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_349 : BitVec 32 := 9#32
  let v610 : BitVec 1 := Scalar.cmpi .slt v2 c9_i32_349
  let v611 : BitVec 32 := Scalar.extui v610
  let c0_i32_350 : BitVec 32 := 0#32
  let v612 : BitVec 1 := Scalar.cmpi .ne v611 c0_i32_350
  v612

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev25 : Nat :=
  let c0_i32_664 : BitVec 32 := 0#32
  let c9_i32_662 : BitVec 32 := 9#32
  let c1_i32_663 : BitVec 32 := 1#32
  let v974 : BitVec 32 := Scalar.muli c9_i32_662 c1_i32_663
  let v975 : BitVec 32 := Scalar.addi c0_i32_664 v974
  v975.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_351 : BitVec 32 := 10#32
  let v613 : BitVec 1 := Scalar.cmpi .slt v2 c10_i32_351
  let v614 : BitVec 32 := Scalar.extui v613
  let c0_i32_352 : BitVec 32 := 0#32
  let v615 : BitVec 1 := Scalar.cmpi .ne v614 c0_i32_352
  v615

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev26 : Nat :=
  let c0_i32_664 : BitVec 32 := 0#32
  let c10_i32_662 : BitVec 32 := 10#32
  let c1_i32_663 : BitVec 32 := 1#32
  let v974 : BitVec 32 := Scalar.muli c10_i32_662 c1_i32_663
  let v975 : BitVec 32 := Scalar.addi c0_i32_664 v974
  v975.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_353 : BitVec 32 := 11#32
  let v616 : BitVec 1 := Scalar.cmpi .slt v2 c11_i32_353
  let v617 : BitVec 32 := Scalar.extui v616
  let c0_i32_354 : BitVec 32 := 0#32
  let v618 : BitVec 1 := Scalar.cmpi .ne v617 c0_i32_354
  v618

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev27 : Nat :=
  let c0_i32_664 : BitVec 32 := 0#32
  let c11_i32_662 : BitVec 32 := 11#32
  let c1_i32_663 : BitVec 32 := 1#32
  let v974 : BitVec 32 := Scalar.muli c11_i32_662 c1_i32_663
  let v975 : BitVec 32 := Scalar.addi c0_i32_664 v974
  v975.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_355 : BitVec 32 := 12#32
  let v619 : BitVec 1 := Scalar.cmpi .slt v2 c12_i32_355
  let v620 : BitVec 32 := Scalar.extui v619
  let c0_i32_356 : BitVec 32 := 0#32
  let v621 : BitVec 1 := Scalar.cmpi .ne v620 c0_i32_356
  v621

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev28 : Nat :=
  let c0_i32_664 : BitVec 32 := 0#32
  let c12_i32_662 : BitVec 32 := 12#32
  let c1_i32_663 : BitVec 32 := 1#32
  let v974 : BitVec 32 := Scalar.muli c12_i32_662 c1_i32_663
  let v975 : BitVec 32 := Scalar.addi c0_i32_664 v974
  v975.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_357 : BitVec 32 := 13#32
  let v622 : BitVec 1 := Scalar.cmpi .slt v2 c13_i32_357
  let v623 : BitVec 32 := Scalar.extui v622
  let c0_i32_358 : BitVec 32 := 0#32
  let v624 : BitVec 1 := Scalar.cmpi .ne v623 c0_i32_358
  v624

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev29 : Nat :=
  let c0_i32_664 : BitVec 32 := 0#32
  let c13_i32_662 : BitVec 32 := 13#32
  let c1_i32_663 : BitVec 32 := 1#32
  let v974 : BitVec 32 := Scalar.muli c13_i32_662 c1_i32_663
  let v975 : BitVec 32 := Scalar.addi c0_i32_664 v974
  v975.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_359 : BitVec 32 := 14#32
  let v625 : BitVec 1 := Scalar.cmpi .slt v2 c14_i32_359
  let v626 : BitVec 32 := Scalar.extui v625
  let c0_i32_360 : BitVec 32 := 0#32
  let v627 : BitVec 1 := Scalar.cmpi .ne v626 c0_i32_360
  v627

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev30 : Nat :=
  let c0_i32_664 : BitVec 32 := 0#32
  let c14_i32_662 : BitVec 32 := 14#32
  let c1_i32_663 : BitVec 32 := 1#32
  let v974 : BitVec 32 := Scalar.muli c14_i32_662 c1_i32_663
  let v975 : BitVec 32 := Scalar.addi c0_i32_664 v974
  v975.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_361 : BitVec 32 := 15#32
  let v628 : BitVec 1 := Scalar.cmpi .slt v2 c15_i32_361
  let v629 : BitVec 32 := Scalar.extui v628
  let c0_i32_362 : BitVec 32 := 0#32
  let v630 : BitVec 1 := Scalar.cmpi .ne v629 c0_i32_362
  v630

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_dev31 : Nat :=
  let c0_i32_664 : BitVec 32 := 0#32
  let c15_i32_662 : BitVec 32 := 15#32
  let c1_i32_663 : BitVec 32 := 1#32
  let v974 : BitVec 32 := Scalar.muli c15_i32_662 c1_i32_663
  let v975 : BitVec 32 := Scalar.addi c0_i32_664 v974
  v975.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_630 : BitVec 32 := 1#32
  let v929 : BitVec 1 := Scalar.cmpi .slt v2 c1_i32_630
  let v930 : BitVec 32 := Scalar.extui v929
  let c0_i32_631 : BitVec 32 := 0#32
  let v931 : BitVec 1 := Scalar.cmpi .ne v930 c0_i32_631
  v931

def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_632 : BitVec 32 := 2#32
  let v932 : BitVec 1 := Scalar.cmpi .slt v2 c2_i32_632
  let v933 : BitVec 32 := Scalar.extui v932
  let c0_i32_633 : BitVec 32 := 0#32
  let v934 : BitVec 1 := Scalar.cmpi .ne v933 c0_i32_633
  v934

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_634 : BitVec 32 := 3#32
  let v935 : BitVec 1 := Scalar.cmpi .slt v2 c3_i32_634
  let v936 : BitVec 32 := Scalar.extui v935
  let c0_i32_635 : BitVec 32 := 0#32
  let v937 : BitVec 1 := Scalar.cmpi .ne v936 c0_i32_635
  v937

def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_636 : BitVec 32 := 4#32
  let v938 : BitVec 1 := Scalar.cmpi .slt v2 c4_i32_636
  let v939 : BitVec 32 := Scalar.extui v938
  let c0_i32_637 : BitVec 32 := 0#32
  let v940 : BitVec 1 := Scalar.cmpi .ne v939 c0_i32_637
  v940

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_638 : BitVec 32 := 5#32
  let v941 : BitVec 1 := Scalar.cmpi .slt v2 c5_i32_638
  let v942 : BitVec 32 := Scalar.extui v941
  let c0_i32_639 : BitVec 32 := 0#32
  let v943 : BitVec 1 := Scalar.cmpi .ne v942 c0_i32_639
  v943

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_640 : BitVec 32 := 6#32
  let v944 : BitVec 1 := Scalar.cmpi .slt v2 c6_i32_640
  let v945 : BitVec 32 := Scalar.extui v944
  let c0_i32_641 : BitVec 32 := 0#32
  let v946 : BitVec 1 := Scalar.cmpi .ne v945 c0_i32_641
  v946

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_642 : BitVec 32 := 7#32
  let v947 : BitVec 1 := Scalar.cmpi .slt v2 c7_i32_642
  let v948 : BitVec 32 := Scalar.extui v947
  let c0_i32_643 : BitVec 32 := 0#32
  let v949 : BitVec 1 := Scalar.cmpi .ne v948 c0_i32_643
  v949

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_644 : BitVec 32 := 8#32
  let v950 : BitVec 1 := Scalar.cmpi .slt v2 c8_i32_644
  let v951 : BitVec 32 := Scalar.extui v950
  let c0_i32_645 : BitVec 32 := 0#32
  let v952 : BitVec 1 := Scalar.cmpi .ne v951 c0_i32_645
  v952

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_646 : BitVec 32 := 9#32
  let v953 : BitVec 1 := Scalar.cmpi .slt v2 c9_i32_646
  let v954 : BitVec 32 := Scalar.extui v953
  let c0_i32_647 : BitVec 32 := 0#32
  let v955 : BitVec 1 := Scalar.cmpi .ne v954 c0_i32_647
  v955

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_648 : BitVec 32 := 10#32
  let v956 : BitVec 1 := Scalar.cmpi .slt v2 c10_i32_648
  let v957 : BitVec 32 := Scalar.extui v956
  let c0_i32_649 : BitVec 32 := 0#32
  let v958 : BitVec 1 := Scalar.cmpi .ne v957 c0_i32_649
  v958

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_650 : BitVec 32 := 11#32
  let v959 : BitVec 1 := Scalar.cmpi .slt v2 c11_i32_650
  let v960 : BitVec 32 := Scalar.extui v959
  let c0_i32_651 : BitVec 32 := 0#32
  let v961 : BitVec 1 := Scalar.cmpi .ne v960 c0_i32_651
  v961

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_652 : BitVec 32 := 12#32
  let v962 : BitVec 1 := Scalar.cmpi .slt v2 c12_i32_652
  let v963 : BitVec 32 := Scalar.extui v962
  let c0_i32_653 : BitVec 32 := 0#32
  let v964 : BitVec 1 := Scalar.cmpi .ne v963 c0_i32_653
  v964

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_654 : BitVec 32 := 13#32
  let v965 : BitVec 1 := Scalar.cmpi .slt v2 c13_i32_654
  let v966 : BitVec 32 := Scalar.extui v965
  let c0_i32_655 : BitVec 32 := 0#32
  let v967 : BitVec 1 := Scalar.cmpi .ne v966 c0_i32_655
  v967

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_656 : BitVec 32 := 14#32
  let v968 : BitVec 1 := Scalar.cmpi .slt v2 c14_i32_656
  let v969 : BitVec 32 := Scalar.extui v968
  let c0_i32_657 : BitVec 32 := 0#32
  let v970 : BitVec 1 := Scalar.cmpi .ne v969 c0_i32_657
  v970

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_658 : BitVec 32 := 15#32
  let v971 : BitVec 1 := Scalar.cmpi .slt v2 c15_i32_658
  let v972 : BitVec 32 := Scalar.extui v971
  let c0_i32_659 : BitVec 32 := 0#32
  let v973 : BitVec 1 := Scalar.cmpi .ne v972 c0_i32_659
  v973

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_665 : BitVec 32 := 0#32
  ![v2.toNat, 0]
-- ==== ReferenceIdeal.lean ====
abbrev S65536x1024 : Shape := ⟨2, ![65536, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S_, .f32⟩
  | .hbm, ⟨3, _⟩ => ⟨S65536x1024, .f32⟩
  | .hbm, ⟨4, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Contents.lean ====
/-
# `Contents` — what the kernel's buffers hold

Device `c` holds a block `x` of 4096 rows of 1024 columns. The kernel works through it in 32 blocks of
128 rows (`blk`), each multiplied by the lower triangular matrix of ones (`cs`: the running sums within
the block), with the running row `off` of everything before the block added; and in 16 chunks of 256 rows
(`chk`), whose column sums it accumulates into the device's `total`. Every later device receives that
total in row `c` of its table; the rows below a device's own index add up to what its whole block has to
be raised by (`off16`).

Here these are written as closed forms in the block `x` (and the blocks `xs` of all the devices), over any
interpretation `F` of the float operations: `out1` is the running sum within the block, `out2` the kernel's
result. The facts are that loading a block or a chunk off a buffer that holds `x` reads `blk`/`chk`, and
that `out1`/`out2` read through a block or a chunk are what the kernel stores there.
-/
module

public import proofs.«01_k».proof.Proof.Gen.KernelIdeal
public import proofs.«01_k».proof.Proof.Gen.KernelIdeal.Skeleton
public import Idealize.ShloMosaic.Lib.Pointwise.Index

@[expose] public section

noncomputable section

namespace Cert.Scan

open Cert.KernelIdeal Cert.KernelIdeal.Gen
open Idealize.ShloMosaic

variable {F : FTy → Type} [FloatOps F]

/-- The contents of a block of the argument. -/
abbrev XBuf (F : FTy → Type) : Type := S4096x1024.Idx → Elt F .f32
/-- The contents of a block of the result. -/
abbrev YBuf (F : FTy → Type) : Type := S4096x1024.Idx → Elt F .bf16

/-! ## Blocks of 128 rows, chunks of 256 rows, rows of the table -/

/-- Rows `128 g …` of a block of the array. -/
abbrev rBlk (g : Fin 32) : Rect S4096x1024 :=
  Rect.unit (s := S4096x1024) ![128 * g.val, 0] S128x1024.size
    (Rect.inb₂ (by show 128 * g.val + 128 ≤ 4096; omega) (by show 0 + 1024 ≤ 1024; omega))
/-- Rows `256 k …` of a block of the array. -/
abbrev rChk (k : Fin 16) : Rect S4096x1024 :=
  Rect.unit (s := S4096x1024) ![256 * k.val, 0] S256x1024.size
    (Rect.inb₂ (by show 256 * k.val + 256 ≤ 4096; omega) (by show 0 + 1024 ≤ 1024; omega))
/-- Row `p` of the table of totals. -/
abbrev rRow (p : Fin 16) : Rect S16x1024 :=
  Rect.unit (s := S16x1024) ![p.val, 0] S1x1024.size
    (Rect.inb₂ (by show p.val + 1 ≤ 16; omega) (by show 0 + 1024 ≤ 1024; omega))

theorem mem_rBlk (g : Fin 32) (i : S4096x1024.Idx) :
    i ∈ (rBlk g).set ↔ 128 * g.val ≤ (i 0).val ∧ (i 0).val < 128 * g.val + 128 := by
  rw [Rect.mem_set_unit]
  constructor
  · intro h; exact h 0
  · rintro h a
    match a with
    | ⟨0, _⟩ => exact h
    | ⟨1, _⟩ => exact ⟨Nat.zero_le _, by have := (i 1).isLt; show (i 1).val < 0 + 1024; rw [Nat.zero_add]; exact this⟩

theorem mem_rChk (k : Fin 16) (i : S4096x1024.Idx) :
    i ∈ (rChk k).set ↔ 256 * k.val ≤ (i 0).val ∧ (i 0).val < 256 * k.val + 256 := by
  rw [Rect.mem_set_unit]
  constructor
  · intro h; exact h 0
  · rintro h a
    match a with
    | ⟨0, _⟩ => exact h
    | ⟨1, _⟩ => exact ⟨Nat.zero_le _, by have := (i 1).isLt; show (i 1).val < 0 + 1024; rw [Nat.zero_add]; exact this⟩

theorem mem_rRow (p : Fin 16) (i : S16x1024.Idx) : i ∈ (rRow p).set ↔ (i 0).val = p.val := by
  rw [Rect.mem_set_unit]
  constructor
  · intro h
    have h0 : p.val ≤ (i 0).val ∧ (i 0).val < p.val + 1 := h 0
    omega
  · rintro h a
    match a with
    | ⟨0, _⟩ => exact (show p.val ≤ (i 0).val ∧ (i 0).val < p.val + 1 by omega)
    | ⟨1, _⟩ => exact ⟨Nat.zero_le _, by have := (i 1).isLt; show (i 1).val < 0 + 1024; rw [Nat.zero_add]; exact this⟩

/-! ## The closed forms -/

/-- Block `g` of `x`. -/
def blk (x : XBuf F) (g : Fin 32) : Vec F S128x1024 .f32 := fun j => x ((rBlk g).emb j)
/-- Chunk `k` of `x`. -/
def chk (x : XBuf F) (k : Fin 16) : Vec F S256x1024 .f32 := fun j => x ((rChk k).emb j)

/-- The running sums within block `g`: the triangular matrix times the block. -/
def cs (x : XBuf F) (g : Fin 32) : FVec F S128x1024 .f32 := k0_pay8 (k0_pay1 (F := F)) (blk x g)

/-- The running row: the sum of the blocks before block `g`. -/
def off (x : XBuf F) : ℕ → FVec F S1x1024 .f32
  | 0 => k0_pay2
  | g + 1 => k0_pay7 (off x g) (cs x (Fin.ofNat 32 g))

/-- The sum of the chunks before chunk `k`. -/
def totC (x : XBuf F) : ℕ → FVec F S1x1024 .f32
  | 0 => k0_pay2
  | k + 1 => k0_pay11 (totC x k) (chk x (Fin.ofNat 16 k))

/-- What the first pass stores at block `g`. -/
def o16 (x : XBuf F) (g : Fin 32) : FVec F S128x1024 .bf16 := k0_pay16 (k0_pay1 (F := F)) (off x g.val) (blk x g)

/-- The device's total. -/
def total (x : XBuf F) : FVec F S1x1024 .f32 := k0_pay114 (totC x 15) (chk x 15)

/-- The block an index lies in, and its place there. -/
def blkOf (i : S4096x1024.Idx) : Fin 32 := ⟨(i 0).val / 128, by have h : (i 0).val < 4096 := (i 0).isLt; omega⟩
def inBlk (i : S4096x1024.Idx) : S128x1024.Idx := ix2 ⟨(i 0).val % 128, Nat.mod_lt _ (by decide)⟩ ⟨(i 1).val, (i 1).isLt⟩
/-- The chunk an index lies in, and its place there. -/
def chkOf (i : S4096x1024.Idx) : Fin 16 := ⟨(i 0).val / 256, by have h : (i 0).val < 4096 := (i 0).isLt; omega⟩
def inChk (i : S4096x1024.Idx) : S256x1024.Idx := ix2 ⟨(i 0).val % 256, Nat.mod_lt _ (by decide)⟩ ⟨(i 1).val, (i 1).isLt⟩

/-- The result after the first pass: the running sums of the device's own block. -/
def out1 (x : XBuf F) : YBuf F := fun i => o16 x (blkOf i) (inBlk i)

/-- Row `0` of a one-row array, as a row of the table. -/
def rowOf (i : S16x1024.Idx) : S1x1024.Idx := ix2 ⟨0, by decide⟩ ⟨(i 1).val, (i 1).isLt⟩

/-- The table of every device's total. -/
def totals (xs : Dev nD → XBuf F) : S16x1024.Idx → Elt F .f32 := fun i => total (xs ⟨(i 0).val, (i 0).isLt⟩) (rowOf i)

/-- The word a device's program computes for its own index. -/
abbrev me (c : Dev nD) : BitVec 32 := Scalar.remsi (Scalar.divsi (Dev.word c) 1#32) 16#32

/-- What device `c` raises its block by, off a table of totals. -/
def offT (c : Dev nD) (T : S16x1024.Idx → Elt F .f32) : FVec F S1x1024 .bf16 := k0_pay118 (me c) T
/-- What device `c` raises its block by: the totals of the devices before it, added up. -/
def off16 (xs : Dev nD → XBuf F) (c : Dev nD) : FVec F S1x1024 .bf16 := offT c (totals xs)

/-- A chunk of the first pass's result. -/
def chk1 (x : XBuf F) (k : Fin 16) : Vec F S256x1024 .bf16 := fun j => out1 x ((rChk k).emb j)

/-- Chunk `k` of the result: the first pass's, raised. -/
def o256 (xs : Dev nD → XBuf F) (c : Dev nD) (k : Fin 16) : FVec F S256x1024 .bf16 := k0_pay122 (off16 xs c) (chk1 (xs c) k)

/-- The kernel's result on device `c`. -/
def out2 (xs : Dev nD → XBuf F) (c : Dev nD) : YBuf F := fun i => o256 xs c (chkOf i) (inChk i)

/-! ## Reading the closed forms back -/

theorem blkOf_emb (g : Fin 32) (j : S128x1024.Idx) : blkOf ((rBlk g).emb j) = g := by
  have h : (((rBlk g).emb j) 0).val = 128 * g.val + 1 * (j 0).val := rfl
  have hj : (j 0).val < 128 := (j 0).isLt
  apply Fin.ext
  show (((rBlk g).emb j) 0).val / 128 = g.val
  omega

theorem inBlk_emb (g : Fin 32) (j : S128x1024.Idx) : inBlk ((rBlk g).emb j) = j := by
  have h : (((rBlk g).emb j) 0).val = 128 * g.val + 1 * (j 0).val := rfl
  have h' : (((rBlk g).emb j) 1).val = 0 + 1 * (j 1).val := rfl
  have hj : (j 0).val < 128 := (j 0).isLt
  funext a
  apply Fin.ext
  match a with
  | ⟨0, _⟩ => show (((rBlk g).emb j) 0).val % 128 = (j 0).val; omega
  | ⟨1, _⟩ => show (((rBlk g).emb j) 1).val = (j 1).val; omega

theorem chkOf_emb (k : Fin 16) (j : S256x1024.Idx) : chkOf ((rChk k).emb j) = k := by
  have h : (((rChk k).emb j) 0).val = 256 * k.val + 1 * (j 0).val := rfl
  have hj : (j 0).val < 256 := (j 0).isLt
  apply Fin.ext
  show (((rChk k).emb j) 0).val / 256 = k.val
  omega

theorem inChk_emb (k : Fin 16) (j : S256x1024.Idx) : inChk ((rChk k).emb j) = j := by
  have h : (((rChk k).emb j) 0).val = 256 * k.val + 1 * (j 0).val := rfl
  have h' : (((rChk k).emb j) 1).val = 0 + 1 * (j 1).val := rfl
  have hj : (j 0).val < 256 := (j 0).isLt
  funext a
  apply Fin.ext
  match a with
  | ⟨0, _⟩ => show (((rChk k).emb j) 0).val % 256 = (j 0).val; omega
  | ⟨1, _⟩ => show (((rChk k).emb j) 1).val = (j 1).val; omega

/-- The first pass's result, read at block `g`, is what the kernel stores there. -/
theorem out1_blk (x : XBuf F) (g : Fin 32) (j : S128x1024.Idx) : out1 x ((rBlk g).emb j) = o16 x g j := by
  show o16 x (blkOf ((rBlk g).emb j)) (inBlk ((rBlk g).emb j)) = _
  rw [blkOf_emb, inBlk_emb]

/-- The result, read at chunk `k`, is what the kernel stores there. -/
theorem out2_chk (xs : Dev nD → XBuf F) (c : Dev nD) (k : Fin 16) (j : S256x1024.Idx) :
    out2 xs c ((rChk k).emb j) = o256 xs c k j := by
  show o256 xs c (chkOf ((rChk k).emb j)) (inChk ((rChk k).emb j)) = _
  rw [chkOf_emb, inChk_emb]

end Cert.Scan

end
-- ==== Proof.Cells.lean ====
/-
# `Cells` — the semaphores, and what each landing on them hands over

The kernel runs on 16 devices, in one line. Every device

* signals the barrier semaphore of each of the other fifteen once, and waits on its own for 15: the signal
  of a LATER device `p` hands device `c` the row `c` of `p`'s table of totals, which `c` alone writes
  (an earlier device's signal hands nothing);
* copies its total into row `c` of the table of every later device `j`: the landing is credited on `j`'s
  receive semaphore `c` and hands `j` that row, holding `c`'s total; on `c`'s own side its send semaphore
  `j` is credited and hands back the share of the total that the copy read;
* waits on its receive semaphores `k < c`, and at the end on its send semaphores `j > c`.

Each of these cells lives for one round (`Lib/Rounds.lean`): a barrier cell has fifteen duties of one unit,
named by the device that pays; a used receive or send cell has one duty of one row's credit, named `0`; an
unused one has none and is closed as it was opened. The copies between a device's own buffers (argument to
staging, result to the array) are on sixteen semaphores each, one chunk of 256 rows apiece, and are handled
where they are made.

A device owes the barrier cells of the others one unit and the receive cells it copies to a row's credit;
it waits on its copies into staging while owing both, on its barrier cell while owing the rows, on the rest
owing nothing: the barrier cells are at level 1, the receive cells at 2, every other at 0.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the devices' rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the devices' rounds live. -/
def ER : Emb UB (MT nD τ sig Unit (Elt F) ℕ UU ℕ) :=
  ((Emb.inl : Emb UB (UB × Counters)).trans (Emb.inr : Emb (UB × Counters) UU)).trans (uEmb : UEmb UU (MT nD τ sig Unit (Elt F) ℕ UU ℕ)).toEmb
instance ER_landsIn : (ER : Emb UB 𝕄).LandsIn (upEmb : UEmb _ 𝕄) := by unfold ER; infer_instance
/-- Where the local copies' counters live. -/
abbrev EC : UEmb Counters (MT nD τ sig Unit (Elt F) ℕ UU ℕ) := countersEmb

/-! ## The buffers and the semaphores -/

abbrev xM : Memref sig .tc .hbm S4096x1024 .f32 := Memref.whole main_arg0
abbrev yM : Memref sig .tc .hbm S4096x1024 .bf16 := Memref.whole main_v1
abbrev stM : Memref sig .tc .vmem S4096x1024 .f32 := Memref.whole cc0_scratch0
abbrev ovM : Memref sig .tc .vmem S4096x1024 .bf16 := Memref.whole cc0_scratch1
abbrev ttM : Memref sig .tc .vmem S1x1024 .f32 := Memref.whole cc0_scratch2
abbrev cmM : Memref sig .tc .vmem S16x1024 .f32 := Memref.whole cc0_scratch3

/-- Semaphore `k` of an array of sixteen, as the kernel names it. -/
abbrev semAt (a : DmaSems sig S16) (k : Fin 16) : DmaSem sig :=
  ((a.slice (Rect.unit (s := S16) ![k.val] S1.size (fun a => by
    match a with | ⟨0, _⟩ => exact (show k.val + 1 ≤ 16 by omega)))).squeeze S_ squeezes_S1_S_).sem

abbrev inS (k : Fin 16) : DmaSem sig := semAt cc0_scratch4 k
abbrev outS (k : Fin 16) : DmaSem sig := semAt cc0_scratch5 k
abbrev sendS (j : Fin 16) : DmaSem sig := semAt cc0_scratch6 j
abbrev recvS (k : Fin 16) : DmaSem sig := semAt cc0_scratch7 k

theorem inS_val (k : Fin 16) : (inS k).val = k.val := by fin_cases k <;> rfl
theorem outS_val (k : Fin 16) : (outS k).val = 16 + k.val := by fin_cases k <;> rfl
theorem sendS_val (k : Fin 16) : (sendS k).val = 32 + k.val := by fin_cases k <;> rfl
theorem recvS_val (k : Fin 16) : (recvS k).val = 48 + k.val := by fin_cases k <;> rfl

/-- The barrier semaphore, as the kernel names it. -/
abbrev barA : Sems sig S_ := SemArray.scalar (sig.barrier 0 rfl)
abbrev barS : Sem sig := barA.sem

abbrev barCell (c : Dev nD) : GSem nD τ sig := ((c : Thread nD τ), .reg barS)
abbrev sendCell (c : Dev nD) (j : Fin 16) : GSem nD τ sig := ((c : Thread nD τ), .dma (sendS j))
abbrev recvCell (c : Dev nD) (k : Fin 16) : GSem nD τ sig := ((c : Thread nD τ), .dma (recvS k))

/-- Row `p` of the table of totals, as a copy's destination. -/
abbrev rowM (p : Fin 16) : Memref sig .tc .vmem S1024 .f32 :=
  (cmM.slice (rRow p) (fun _ => rfl)).squeeze S1024 squeezes_S1x1024_S1024
/-- The device's total, as a copy's source. -/
abbrev totM : Memref sig .tc .vmem S1024 .f32 :=
  (ttM.slice (Rect.unit (s := S1x1024) ![0, 0] S1x1024.size inb_S1x1024_S1x1024_0_0) (fun _ => rfl)).squeeze S1024 squeezes_S1x1024_S1024

/-- A row's credit. -/
abbrev N : ℕ := (totM).view.dmaCredit
theorem N_pos : 0 < N := View.dmaCredit_pos _ (by decide)
theorem N_row (p : Fin 16) : (rowM p).view.dmaCredit = N := rfl

/-! ## What is held of the buffers -/

/-- Row `p` of device `c`'s table, at contents `f`. -/
def rowPts (c : Dev nD) (p : Fin 16) (f : Buf (Elt F) ((rowM p).view.loc (c : Thread nD τ))) : sProp 𝕄 :=
  (rowM p).view.loc (c : Thread nD τ) ↦[(rowM p).view.set]{fullShare} f
/-- Share `j` of the sixteen that device `c` cuts off its total, one for each device it may copy it to. -/
def totPts (c : Dev nD) (j : Fin 16) (f : Buf (Elt F) (totM.view.loc (c : Thread nD τ))) : sProp 𝕄 :=
  totM.view.loc (c : Thread nD τ) ↦[totM.view.set]{Transfers.shareTok fullShare 16 j} f

omit [FloatOps F] in
instance rowPts_storable (c : Dev nD) (p : Fin 16) (f) : BI.Storable (upEmb : UEmb _ 𝕄) (rowPts (F := F) c p f) := by unfold rowPts; infer_instance
omit [FloatOps F] in
instance totPts_storable (c : Dev nD) (j : Fin 16) (f) : BI.Storable (upEmb : UEmb _ 𝕄) (totPts (F := F) c j f) := by unfold totPts; infer_instance

/-! ## The schedule -/

variable (xs : Dev nD → XBuf F)

/-- What device `p`'s signal hands device `c`: row `c` of `p`'s table, if `p` comes later. -/
def barPay (c p : Dev nD) : sProp 𝕄 := if c < p then iprop(∃ f, rowPts p c f) else iprop(emp)
/-- What the landing on receive semaphore `k` hands device `c`: row `k` of its table, holding `k`'s total. -/
def recvPay (c : Dev nD) (k : Fin 16) : sProp 𝕄 := rowPts c k (totals xs)
/-- What the landing on send semaphore `j` hands device `c`: the share of its total the copy read. -/
def sendPay (c : Dev nD) (j : Fin 16) : sProp 𝕄 := totPts c j (total (xs c))

/-- The duties of a DMA cell of device `c`: the receive cells of the devices before it and the send cells of the
    devices after it have one. -/
def dmaDuties (c : Dev nD) (q : ℕ) : Finset (Dev nD) :=
  if 48 ≤ q then (if q - 48 < c.val then {0} else ∅) else if 32 ≤ q then (if c.val < q - 32 then {0} else ∅) else ∅

/-- The protocol: one round, round 0. -/
def Rd : Rounds.Schedule (GSem nD τ sig) (Dev nD) 𝕄 where
  duties g r := if r = 0 then (match g.2 with
    | .reg _ => Finset.univ.erase g.1.1
    | .dma q => dmaDuties g.1.1 q.val) else ∅
  unitless _ := False
  amount g _ _ := match g.2 with
    | .reg _ => 1
    | .dma _ => N
  payload g _ d := match g.2 with
    | .reg _ => barPay g.1.1 d
    | .dma q => if 48 ≤ q.val then recvPay xs g.1.1 (Fin.ofNat 16 (q.val - 48)) else sendPay xs g.1.1 (Fin.ofNat 16 (q.val - 32))
  amount_pos g _ _ _ := by
    rcases g with ⟨_, _ | _⟩
    · exact Nat.one_pos
    · exact N_pos

instance Rd_payload_storable (g : GSem nD τ sig) (r : ℕ) (d : Dev nD) :
    BI.Storable (upEmb : UEmb _ 𝕄) ((Rd (F := F) xs).payload g r d) := by
  rcases g with ⟨t, _ | q⟩
  · show BI.Storable upEmb (barPay t.1 d)
    unfold barPay; split <;> infer_instance
  · show BI.Storable upEmb (if 48 ≤ q.val then recvPay xs t.1 (Fin.ofNat 16 (q.val - 48)) else sendPay xs t.1 (Fin.ofNat 16 (q.val - 32)))
    unfold recvPay sendPay; split <;> infer_instance

section Sched
variable (c : Dev nD)

theorem duties_bar : (Rd (F := F) xs).duties (barCell c) 0 = Finset.univ.erase c := rfl
theorem duties_send (j : Fin 16) : (Rd (F := F) xs).duties (sendCell c j) 0 = if c.val < j.val then {0} else ∅ := by
  show dmaDuties c (sendS j).val = _
  rw [sendS_val]; unfold dmaDuties
  rw [if_neg (by omega), if_pos (by omega), Nat.add_sub_cancel_left]
theorem duties_recv (k : Fin 16) : (Rd (F := F) xs).duties (recvCell c k) 0 = if k.val < c.val then {0} else ∅ := by
  show dmaDuties c (recvS k).val = _
  rw [recvS_val]; unfold dmaDuties
  rw [if_pos (by omega), Nat.add_sub_cancel_left]
theorem duties_later (g : GSem nD τ sig) : ∀ r, 1 ≤ r → (Rd (F := F) xs).duties g r = ∅ :=
  fun r hr => if_neg (by omega)
theorem duties_of_zero {g : GSem nD τ sig} (h : (Rd (F := F) xs).duties g 0 = ∅) : ∀ r, 0 ≤ r → (Rd (F := F) xs).duties g r = ∅
  | 0, _ => h
  | r + 1, _ => duties_later xs g (r + 1) (by omega)

theorem amount_bar (d : Dev nD) : (Rd (F := F) xs).amount (barCell c) 0 d = 1 := rfl
theorem amount_send (j : Fin 16) (d : Dev nD) : (Rd (F := F) xs).amount (sendCell c j) 0 d = N := rfl
theorem amount_recv (k : Fin 16) (d : Dev nD) : (Rd (F := F) xs).amount (recvCell c k) 0 d = N := rfl

theorem expect_bar : (Rd (F := F) xs).expect (barCell c) 0 = 15 := by
  unfold Schedule.expect Schedule.amountOf
  rw [duties_bar, Finset.sum_congr rfl fun d _ => amount_bar xs c d, Finset.sum_const, Finset.card_erase_of_mem (Finset.mem_univ _),
    Finset.card_univ, Fintype.card_fin]
  rfl
theorem expect_send {j : Fin 16} (h : c.val < j.val) : (Rd (F := F) xs).expect (sendCell c j) 0 = N := by
  unfold Schedule.expect Schedule.amountOf; rw [duties_send, if_pos h, Finset.sum_singleton, amount_send]
theorem expect_recv {k : Fin 16} (h : k.val < c.val) : (Rd (F := F) xs).expect (recvCell c k) 0 = N := by
  unfold Schedule.expect Schedule.amountOf; rw [duties_recv, if_pos h, Finset.sum_singleton, amount_recv]

theorem payload_bar (d : Dev nD) : (Rd (F := F) xs).payload (barCell c) 0 d = barPay c d := rfl
theorem payload_send (j : Fin 16) (d : Dev nD) : (Rd (F := F) xs).payload (sendCell c j) 0 d = sendPay xs c j := by
  show (if 48 ≤ (sendS j).val then recvPay xs c (Fin.ofNat 16 ((sendS j).val - 48)) else sendPay xs c (Fin.ofNat 16 ((sendS j).val - 32))) = _
  rw [sendS_val, if_neg (by omega), Nat.add_sub_cancel_left, Fin.ofNat_val_eq_self]
theorem payload_recv (k : Fin 16) (d : Dev nD) : (Rd (F := F) xs).payload (recvCell c k) 0 d = recvPay xs c k := by
  show (if 48 ≤ (recvS k).val then recvPay xs c (Fin.ofNat 16 ((recvS k).val - 48)) else sendPay xs c (Fin.ofNat 16 ((recvS k).val - 32))) = _
  rw [recvS_val, if_pos (by omega), Nat.add_sub_cancel_left, Fin.ofNat_val_eq_self]

theorem rest_bar : bigSep ((Rd (F := F) xs).duties (barCell c) 0 \ ∅) (fun d => (Rd (F := F) xs).payload (barCell c) 0 d)
    = bigSep (Finset.univ.erase c) (fun d => barPay (F := F) c d) := by
  rw [Finset.sdiff_empty, duties_bar]; rfl
theorem rest_send {j : Fin 16} (h : c.val < j.val) :
    bigSep ((Rd (F := F) xs).duties (sendCell c j) 0 \ ∅) (fun d => (Rd (F := F) xs).payload (sendCell c j) 0 d) = sendPay xs c j := by
  rw [Finset.sdiff_empty, duties_send, if_pos h, bigSep_singleton, payload_send]
theorem rest_recv {k : Fin 16} (h : k.val < c.val) :
    bigSep ((Rd (F := F) xs).duties (recvCell c k) 0 \ ∅) (fun d => (Rd (F := F) xs).payload (recvCell c k) 0 d) = recvPay xs c k := by
  rw [Finset.sdiff_empty, duties_recv, if_pos h, bigSep_singleton, payload_recv]

end Sched

/-! ## What each device owes, and the levels -/

/-- What device `c` still owes after offering its signals to the devices below `n` and its total to those below `s`. -/
def Ow (c : Dev nD) (n s : ℕ) : CellTallies nD τ sig Unit :=
  (∑ j ∈ Finset.univ.filter (fun j : Dev nD => s ≤ j.val ∧ c.val < j.val), tallyAt (recvCell j c) () N)
    + ∑ p ∈ Finset.univ.filter (fun p : Dev nD => n ≤ p.val ∧ p ≠ c), tallyAt (barCell p) () 1

theorem Ow_bar_step (c p : Dev nD) (s : ℕ) (h : p ≠ c) : Ow c p.val s = Ow c (p.val + 1) s + tallyAt (barCell p) () 1 := by
  unfold Ow
  rw [show Finset.univ.filter (fun q : Dev nD => p.val ≤ q.val ∧ q ≠ c)
      = insert p (Finset.univ.filter (fun q : Dev nD => p.val + 1 ≤ q.val ∧ q ≠ c)) from by
    ext q
    simp only [Finset.mem_filter, Finset.mem_univ, true_and, Finset.mem_insert]
    constructor
    · rintro ⟨h1, h2⟩
      by_cases hq : q = p
      · exact .inl hq
      · exact .inr ⟨Nat.lt_of_le_of_ne h1 (fun e => hq (Fin.ext e.symm)), h2⟩
    · rintro (rfl | ⟨h1, h2⟩)
      · exact ⟨le_rfl, h⟩
      · exact ⟨by omega, h2⟩]
  rw [Finset.sum_insert (by simp), add_comm (tallyAt (barCell p) () 1), add_assoc]

theorem Ow_bar_skip (c : Dev nD) (s : ℕ) : Ow c c.val s = Ow c (c.val + 1) s := by
  unfold Ow
  congr 2
  ext q
  simp only [Finset.mem_filter, Finset.mem_univ, true_and]
  constructor
  · rintro ⟨h1, h2⟩
    exact ⟨Nat.lt_of_le_of_ne h1 (fun e => h2 (Fin.ext e.symm)), h2⟩
  · rintro ⟨h1, h2⟩
    exact ⟨by omega, h2⟩

theorem Ow_send_step (c j : Dev nD) (n : ℕ) (h : c.val < j.val) : Ow c n j.val = Ow c n (j.val + 1) + tallyAt (recvCell j c) () N := by
  unfold Ow
  rw [show Finset.univ.filter (fun q : Dev nD => j.val ≤ q.val ∧ c.val < q.val)
      = insert j (Finset.univ.filter (fun q : Dev nD => j.val + 1 ≤ q.val ∧ c.val < q.val)) from by
    ext q
    simp only [Finset.mem_filter, Finset.mem_univ, true_and, Finset.mem_insert]
    constructor
    · rintro ⟨h1, h2⟩
      by_cases hq : q = j
      · exact .inl hq
      · exact .inr ⟨Nat.lt_of_le_of_ne h1 (fun e => hq (Fin.ext e.symm)), h2⟩
    · rintro (rfl | ⟨h1, h2⟩)
      · exact ⟨le_rfl, h⟩
      · exact ⟨by omega, h2⟩]
  rw [Finset.sum_insert (by simp), add_comm (tallyAt (recvCell j c) () N), add_right_comm]

theorem Ow_send_skip (c j : Dev nD) (n : ℕ) (h : ¬ c.val < j.val) : Ow c n j.val = Ow c n (j.val + 1) := by
  unfold Ow
  congr 2
  ext q
  simp only [Finset.mem_filter, Finset.mem_univ, true_and]
  constructor <;> rintro ⟨h1, h2⟩ <;> exact ⟨by omega, h2⟩

theorem Ow_send_zero (c : Dev nD) (n : ℕ) : Ow c n 0 = Ow c n 1 :=
  Ow_send_skip c ⟨0, by decide⟩ n (by show ¬ c.val < 0; omega)

theorem Ow_done (c : Dev nD) : Ow c 16 16 = 0 := by
  unfold Ow
  rw [Finset.filter_false_of_mem (fun q _ h => by have := q.isLt; have : q.val < 16 := this; omega),
    Finset.filter_false_of_mem (fun q _ h => by have := q.isLt; have : q.val < 16 := this; omega), Finset.sum_empty, Finset.sum_empty, add_zero]

/-- What is owed is owed to barrier cells and to receive cells. -/
theorem Ow_pos {c : Dev nD} {n s : ℕ} {g : GSem nD τ sig} {u : Unit} (h : 0 < Ow c n s g u) :
    (∃ j, g = recvCell j c) ∨ (∃ p : Dev nD, n ≤ p.val ∧ g = barCell p) := by
  by_contra hn
  rw [not_or] at hn
  unfold Ow at h
  rw [Pi.add_apply, Finsupp.add_apply, Finset.sum_apply, Finset.sum_apply, Finsupp.finsetSum_apply, Finsupp.finsetSum_apply,
    Finset.sum_eq_zero (fun j _ => by rw [tallyAt_apply, if_neg (fun h' => hn.1 ⟨j, h'.1⟩)]),
    Finset.sum_eq_zero (fun p hp => by
      rw [tallyAt_apply, if_neg (fun h' => hn.2 ⟨p, (Finset.mem_filter.mp hp).2.1, h'.1⟩)])] at h
  exact Nat.lt_irrefl 0 h

def L (g : GSem nD τ sig) : Finset Unit := if g.1.2 = .tc then {()} else ∅
def lv (g : GSem nD τ sig) (_ : Unit) : ℕ := match g.2 with
  | .reg _ => 1
  | .dma q => if 48 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 16) : lv (recvCell c k) () = 2 := by
  show (if 48 ≤ (recvS k).val then 2 else 0) = 2
  rw [recvS_val, if_pos (by omega)]
theorem lv_low (c : Dev nD) (q : DmaSem sig) (h : q.val < 48) : lv ((c : Thread nD τ), .dma q) () = 0 := by
  show (if 48 ≤ q.val then 2 else 0) = 0
  rw [if_neg (by omega)]

/-- A copy of the device's own may be waited for whatever is owed. -/
theorem mayWait_low (c : Dev nD) (q : DmaSem sig) (h : q.val < 48) (n s : ℕ) :
    (levAts L lv : sProp 𝕄) ⊢ MayWait (c : Thread nD τ) (.dma q) () (Ow c n s) :=
  MayOwe.of_cut (L := L) (lev := lv) 0 (fun p hp => by rw [Finset.mem_singleton.mp hp, L_tc]; exact Finset.mem_singleton_self _)
    (fun g u hg => by rcases Ow_pos hg with ⟨j, rfl⟩ | ⟨p, _, rfl⟩ <;> exact Finset.mem_singleton_self _)
    (fun p hp => by rw [Finset.mem_singleton.mp hp, lv_low c q h])
    (fun g u hg => by
      rcases Ow_pos hg with ⟨j, rfl⟩ | ⟨p, _, rfl⟩
      · rw [lv_recv]; decide
      · rw [lv_bar]; decide)

/-- The barrier may be waited for once every signal is given. -/
theorem mayWait_bar (c : Dev nD) (s : ℕ) :
    (levAts L lv : sProp 𝕄) ⊢ MayWait (c : Thread nD τ) (.reg barS) () (Ow c 16 s) :=
  MayOwe.of_cut (L := L) (lev := lv) 1 (fun p hp => by rw [Finset.mem_singleton.mp hp, L_tc]; exact Finset.mem_singleton_self _)
    (fun g u hg => by rcases Ow_pos hg with ⟨j, rfl⟩ | ⟨p, _, rfl⟩ <;> exact Finset.mem_singleton_self _)
    (fun p hp => by rw [Finset.mem_singleton.mp hp, lv_bar])
    (fun g u hg => by
      rcases Ow_pos hg with ⟨j, rfl⟩ | ⟨p, hp, rfl⟩
      · rw [lv_recv]; decide
      · exact absurd p.isLt (by have : ¬ p.val < 16 := by omega
                                exact this))

end Cert.Scan

end
-- ==== Proof.Local.lean ====
/-
# `Local` — the operations a device makes on its own buffers

The argument's block and the staging buffer are held in sixteen chunks of 256 rows, each of which is copied
into staging on a semaphore of its own: `Inn x c q w` says that `q` of the copies have been started and `w`
of them waited for. The result is computed in a buffer `ovM` of the device: while the first pass runs it is
held whole, the running sums stored up to block `b` (`Ov x c b`); after that in chunks (`Out xs c s q w`: `s`
of them raised, `q` started back to the array, `w` waited for).

Each theorem here is one operation of the kernel at the head of a program, at a symbolic block or chunk: from
what is held before, and the rest of the program from what is held after.
-/
module

public import proofs.«01_k».proof.Proof.Cells

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program run by device `c`'s core, to the postcondition `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, having waited for whatever it has. -/
def OwS (c : Dev nD) (n s : ℕ) : sProp 𝕄 := iprop(∃ W, owes (c : Thread nD τ) (Ow c n s) W)
/-- Device `c` owes nothing. -/
def OwZ (c : Dev nD) : sProp 𝕄 := iprop(∃ W, owes (c : Thread nD τ) 0 W)

/-! ## Advancing one index of a family -/

section
variable {I : Type} [Fintype I] [DecidableEq I]

theorem bigSep_take_put (Φ Ψ : I → sProp 𝕄) (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (fun j hj => h j (Finset.ne_of_mem_erase hj))]
  iintro ⟨H, Hr⟩
  isplitl [H]; · iexact H
  iintro H
  isplitl [H] <;> iassumption
end

/-! ## Chunks -/

abbrev xV (k : Fin 16) : Memref sig .tc .hbm S256x1024 .f32 := xM.slice (rChk k) (fun _ => rfl)
abbrev yV (k : Fin 16) : Memref sig .tc .hbm S256x1024 .bf16 := yM.slice (rChk k) (fun _ => rfl)
abbrev stV (k : Fin 16) : Memref sig .tc .vmem S256x1024 .f32 := stM.slice (rChk k) (fun _ => rfl)
abbrev ovV (k : Fin 16) : Memref sig .tc .vmem S256x1024 .bf16 := ovM.slice (rChk k) (fun _ => rfl)

section
variable (c : Dev nD) (k : Fin 16)

def xPts (f : XBuf F) : sProp 𝕄 := (xV k).view.loc (c : Thread nD τ) ↦[(xV k).view.set]{fullShare} f
def yPts (f : YBuf F) : sProp 𝕄 := (yV k).view.loc (c : Thread nD τ) ↦[(yV k).view.set]{fullShare} f
def stPts (f : XBuf F) : sProp 𝕄 := (stV k).view.loc (c : Thread nD τ) ↦[(stV k).view.set]{fullShare} f
def ovPts (f : YBuf F) : sProp 𝕄 := (ovV k).view.loc (c : Thread nD τ) ↦[(ovV k).view.set]{fullShare} f

end

/-- The credit of a chunk of the argument, and of the result. -/
abbrev Nin : ℕ := (stV 0).view.dmaCredit
abbrev Nout : ℕ := (yV 0).view.dmaCredit
theorem Nin_pos : 0 < Nin := View.dmaCredit_pos _ (by decide)
theorem Nout_pos : 0 < Nout := View.dmaCredit_pos _ (by decide)

/-! ## The argument into staging -/

section In
variable (x : XBuf F) (c : Dev nD)

/-- Chunk `k`: waited for, in flight, or not yet started. -/
def inRes (q w : ℕ) (k : Fin 16) : sProp 𝕄 :=
  if k.val < w then iprop(stPts c k x ∗ xPts c k x ∗ semVal ((c : Thread nD τ), .dma (inS k)) 0)
  else if k.val < q then Transfers.Flight EC (c : Thread nD τ) (.dma (inS k)) () Nin iprop(stPts c k x ∗ xPts c k x)
  else iprop((∃ f, stPts c k f) ∗ xPts c k x ∗ semVal ((c : Thread nD τ), .dma (inS k)) 0)

def Inn (q w : ℕ) : sProp 𝕄 := bigSep Finset.univ (inRes x c q w)

theorem inRes_done {q w : ℕ} {k : Fin 16} (h : k.val < w) :
    inRes x c q w k = iprop(stPts c k x ∗ xPts c k x ∗ semVal ((c : Thread nD τ), .dma (inS k)) 0) := if_pos h
theorem inRes_flight {q w : ℕ} {k : Fin 16} (h : ¬ k.val < w) (h' : k.val < q) :
    inRes x c q w k = Transfers.Flight EC (c : Thread nD τ) (.dma (inS k)) () Nin iprop(stPts c k x ∗ xPts c k x) := by
  unfold inRes; rw [if_neg h, if_pos h']
theorem inRes_idle {q w : ℕ} {k : Fin 16} (h : ¬ k.val < w) (h' : ¬ k.val < q) :
    inRes x c q w k = iprop((∃ f, stPts c k f) ∗ xPts c k x ∗ semVal ((c : Thread nD τ), .dma (inS k)) 0) := by
  unfold inRes; rw [if_neg h, if_neg h']

theorem inRes_start {n : ℕ} (hn : n < 16) (j : Fin 16) (h : j ≠ ⟨n, hn⟩) : inRes x c n 0 j = inRes x c (n + 1) 0 j := by
  have hj : j.val ≠ n := fun e => h (Fin.ext e)
  unfold inRes
  rw [if_neg (Nat.not_lt_zero _), if_neg (Nat.not_lt_zero _)]
  by_cases hl : j.val < n
  · rw [if_pos hl, if_pos (show j.val < n + 1 by omega)]
  · rw [if_neg hl, if_neg (show ¬ j.val < n + 1 by omega)]

theorem inRes_wait {q n : ℕ} (hn : n < 16) (j : Fin 16) (h : j ≠ ⟨n, hn⟩) : inRes x c q n j = inRes x c q (n + 1) j := by
  have hj : j.val ≠ n := fun e => h (Fin.ext e)
  unfold inRes
  by_cases hl : j.val < n
  · rw [if_pos hl, if_pos (show j.val < n + 1 by omega)]
  · rw [if_neg hl, if_neg (show ¬ j.val < n + 1 by omega)]

/-- A chunk landed in staging holds the argument's. -/
theorem in_landed (k : Fin 16) (fd : XBuf F) :
    ((stV k).view.loc (c : Thread nD τ) ↦[(stV k).view.set]{fullShare}
        ((stV k).view.write (Elt F) fd ((ReadAs.same : ReadAs (Elt F) S256x1024 .f32 S256x1024 .f32).apply ((xV k).view.read (Elt F) x)) Finset.univ) : sProp 𝕄)
      = stPts c k x := by
  unfold stPts
  refine pointsTo_congr fun i hi => ?_
  have e : (xV k).view.read (Elt F) x = (stV k).view.read (Elt F) x := rfl
  show (stV k).view.write (Elt F) fd ((xV k).view.read (Elt F) x) Finset.univ i = x i
  rw [e, View.write_read_eq_piecewise, View.setOn_univ, Finset.piecewise_eq_of_mem _ _ _ hi]

theorem step_in_start (n : ℕ) (hn : n < 16) {hsrc : (xV ⟨n, hn⟩).view.WordExact} {hdst : (stV ⟨n, hn⟩).view.WordExact}
    {hsem : DmaTarget.Typed (nD := nD) .hbm (.dma (inS ⟨n, hn⟩)) (.here (stV ⟨n, hn⟩) : DmaTarget nD τ sig .tc .vmem S256x1024 .f32)}
    {α : Type} {k : PUnit → Prog (TpuEff nD τ sig (Elt F) Λ₀ .tc) α} {Q : α → sProp 𝕄} :
    Inn x c n 0 ⊢ iprop((Inn x c (n + 1) 0 -∗ Wp c (k ⟨⟩) Q)
      -∗ Wp c (Prog.lift (.enqueueDma (xV ⟨n, hn⟩) (.here (stV ⟨n, hn⟩)) (.dma (inS ⟨n, hn⟩)) hsrc hdst hsem) >>= k) Q) := by
  unfold Inn
  refine (bigSep_take_put _ _ (⟨n, hn⟩ : Fin 16) (inRes_start x c hn)).trans ?_
  rw [inRes_idle x c (Nat.not_lt_zero _) (Nat.lt_irrefl n), inRes_flight x c (Nat.not_lt_zero _) (Nat.lt_succ_self n)]
  iintro ⟨⟨⟨%f, Hs⟩, Hx, Hv⟩, Hput⟩ Hk
  unfold xPts stPts
  simp only [Prog.lift, Prog.bind_op, Prog.bind_ret]
  iapply (Transfers.wp_dmaLocal EC 𝒱₀ (c : Thread nD τ) none () Nin rfl Nin_pos (Finset.Subset.refl _)) $$ [Hs Hx Hv]
  · isplitl [Hx]; · iexact Hx
    isplitl [Hs]; · iexact Hs
    iexact Hv
  iintro Hf
  iapply Hk
  iapply Hput
  iapply (Transfers.Flight_mono EC (c : Thread nD τ) (sep_mono_left (Entails.of_eq (in_landed x c ⟨n, hn⟩ f)))) $$ Hf

theorem step_in_wait (n : ℕ) (hn : n < 16) (a s : ℕ) {hsrc : (xV ⟨n, hn⟩).view.WordExact} {hdst : (stV ⟨n, hn⟩).view.WordExact}
    {α : Type} {k : PUnit → Prog (TpuEff nD τ sig (Elt F) Λ₀ .tc) α} {Q : α → sProp 𝕄} :
    (levAts L lv : sProp 𝕄) ⊢ iprop(Inn x c 16 n -∗ OwS c a s -∗ (Inn x c 16 (n + 1) -∗ OwS c a s -∗ Wp c (k ⟨⟩) Q)
      -∗ Wp c (Prog.lift (.waitDma2 (inS ⟨n, hn⟩) (xV ⟨n, hn⟩) (stV ⟨n, hn⟩) hsrc hdst) >>= k) Q) := by
  unfold Inn OwS
  iintro #Hlev HI ⟨%W, HO⟩ Hk
  ihave HI2 := (bigSep_take_put _ _ (⟨n, hn⟩ : Fin 16) (inRes_wait x c hn)) $$ HI
  rw [inRes_flight x c (Nat.lt_irrefl n) hn, inRes_done x c (Nat.lt_succ_self n)]
  icases HI2 with ⟨Hf, Hput⟩
  simp only [Prog.lift, Prog.bind_op, Prog.bind_ret]
  iapply (Transfers.wp_waitLocalO EC 𝒱₀ (c : Thread nD τ) none () rfl) $$ [Hf HO]
  · isplitl [Hf]; · iexact Hf
    isplitl [HO]; · iexact HO
    iapply (mayWait_low c (inS ⟨n, hn⟩) (by rw [inS_val]; show n < 48; omega) a s) $$ Hlev
  iintro ⟨⟨Hs, Hx⟩, Hv, HO⟩
  ihave HI := Hput $$ [Hs Hx Hv]
  · isplitl [Hs]; · iexact Hs
    isplitl [Hx] <;> iassumption
  iapply Hk $$ HI [HO]
  iexists _; iexact HO

/-- A load of block `g` off staging, once the chunk it lies in has landed. -/
theorem step_load_blk (g : ℕ) (hg : g < 32) {w : ℕ} (hw : g / 2 < w)
    {hl : stM.view.LoadsAt (rBlk ⟨g, hg⟩).toLoadRect}
    {α : Type} {k : Vec F S128x1024 .f32 → Prog (TpuEff nD τ sig (Elt F) Λ₀ .tc) α} {Q : α → sProp 𝕄} :
    Inn x c 16 w ⊢ iprop((Inn x c 16 w -∗ Wp c (k (blk x ⟨g, hg⟩)) Q)
      -∗ Wp c (Prog.lift (.load stM (rBlk ⟨g, hg⟩).toLoadRect hl) >>= k) Q) := by
  unfold Inn
  refine (bigSep_take_put _ _ (⟨g / 2, by omega⟩ : Fin 16) (fun _ _ => rfl)).trans ?_
  rw [inRes_done x c hw]
  iintro ⟨⟨Hs, Hx, Hv⟩, Hput⟩ Hk
  unfold stPts
  simp only [Prog.lift, Prog.bind_op, Prog.bind_ret]
  iapply (wp_load 𝒱₀ (c : Thread nD τ) none Set.univ (m := stM) (by
    intro i hi
    rw [View.set_slice_whole, mem_rChk]
    have hi' : i ∈ (rBlk ⟨g, hg⟩).set := by
      obtain ⟨j, hj, rfl⟩ := Finset.mem_map.mp hi
      exact hj
    rw [mem_rBlk] at hi'
    show 256 * (g / 2) ≤ (i 0).val ∧ (i 0).val < 256 * (g / 2) + 256
    have h1 : 128 * g ≤ (i 0).val := hi'.1
    have h2 : (i 0).val < 128 * g + 128 := hi'.2
    omega)) $$ Hs
  iintro Hs
  iapply Hk
  iapply Hput
  isplitl [Hs]; · iexact Hs
  isplitl [Hx] <;> iassumption

/-- A load of chunk `g` off staging, once it has landed. -/
theorem step_load_chk (g : ℕ) (hg : g < 16) {w : ℕ} (hw : g < w)
    {hl : stM.view.LoadsAt (rChk ⟨g, hg⟩).toLoadRect}
    {α : Type} {k : Vec F S256x1024 .f32 → Prog (TpuEff nD τ sig (Elt F) Λ₀ .tc) α} {Q : α → sProp 𝕄} :
    Inn x c 16 w ⊢ iprop((Inn x c 16 w -∗ Wp c (k (chk x ⟨g, hg⟩)) Q)
      -∗ Wp c (Prog.lift (.load stM (rChk ⟨g, hg⟩).toLoadRect hl) >>= k) Q) := by
  unfold Inn
  refine (bigSep_take_put _ _ (⟨g, hg⟩ : Fin 16) (fun _ _ => rfl)).trans ?_
  rw [inRes_done x c hw]
  iintro ⟨⟨Hs, Hx, Hv⟩, Hput⟩ Hk
  unfold stPts
  simp only [Prog.lift, Prog.bind_op, Prog.bind_ret]
  iapply (wp_load 𝒱₀ (c : Thread nD τ) none Set.univ (m := stM) (by rw [View.set_slice]; exact Finset.Subset.refl _)) $$ Hs
  iintro Hs
  iapply Hk
  iapply Hput
  isplitl [Hs]; · iexact Hs
  isplitl [Hx] <;> iassumption

end In

/-! ## The first pass's stores -/

section Ov
variable (x : XBuf F) (c : Dev nD)

/-- The result's buffer whole, the running sums stored in the blocks below `b`. -/
def Ov (b : ℕ) : sProp 𝕄 :=
  iprop(∃ f : YBuf F, ⌜∀ i : S4096x1024.Idx, (i 0).val < 128 * b → f i = out1 x i⌝ ∗ (ovM.view.loc (c : Thread nD τ) ↦{fullShare} f))

/-- A load of block `g` off the result's buffer, whose value is not used. -/
theorem step_dead_blk {b : ℕ} (g : ℕ) (hg : g < 32) {hl : ovM.view.LoadsAt (rBlk ⟨g, hg⟩).toLoadRect}
    {α : Type} {k : Vec F S128x1024 .bf16 → Prog (TpuEff nD τ sig (Elt F) Λ₀ .tc) α} {Q : α → sProp 𝕄} :
    Ov x c b ⊢ iprop((∀ v, Ov x c b -∗ Wp c (k v) Q)
      -∗ Wp c (Prog.lift (.load ovM (rBlk ⟨g, hg⟩).toLoadRect hl) >>= k) Q) := by
  unfold Ov
  iintro ⟨%f, %hf, Ho⟩ Hk
  simp only [Prog.lift, Prog.bind_op, Prog.bind_ret]
  iapply (wp_load 𝒱₀ (c : Thread nD τ) none Set.univ (m := ovM) (Finset.subset_univ _)) $$ Ho
  iintro Ho
  iapply Hk
  iexists f
  isplitr; · ipureintro; exact hf
  iexact Ho

/-- The store of block `g` of the running sums. -/
theorem step_store_blk (g : ℕ) (hg : g < 32) {w : Vec F S128x1024 .bf16} (hw : w = o16 x ⟨g, hg⟩)
    {hx : (ovM.access (rBlk ⟨g, hg⟩)).Stores Finset.univ} {hm}
    {α : Type} {k : PUnit → Prog (TpuEff nD τ sig (Elt F) Λ₀ .tc) α} {Q : α → sProp 𝕄} :
    Ov x c g ⊢ iprop((Ov x c (g + 1) -∗ Wp c (k ⟨⟩) Q)
      -∗ Wp c (Prog.lift (.store ovM (rBlk ⟨g, hg⟩) w Finset.univ hx hm) >>= k) Q) := by
  subst hw
  unfold Ov
  iintro ⟨%f, %hf, Ho⟩ Hk
  simp only [Prog.lift, Prog.bind_op, Prog.bind_ret]
  iapply (wp_store 𝒱₀ (c : Thread nD τ) none Set.univ (m := ovM) (r := rBlk ⟨g, hg⟩) (Mk := Finset.univ) (S := Finset.univ) (f := f) (Finset.subset_univ _)) $$ Ho
  iintro Ho
  iapply Hk
  iexists (ovM.access (rBlk ⟨g, hg⟩)).write (Elt F) f (o16 x ⟨g, hg⟩) Finset.univ
  isplitr
  · ipureintro
    intro i hi
    by_cases h : i ∈ (ovM.access (rBlk ⟨g, hg⟩)).setOn Finset.univ
    · obtain ⟨j, -, rfl⟩ := Finset.mem_map.mp h
      rw [View.write_emb_of_mem _ _ (Finset.mem_univ _)]
      exact (out1_blk x ⟨g, hg⟩ j).symm
    · rw [View.write_of_not_mem _ _ _ h]
      have h' : i ∉ (rBlk ⟨g, hg⟩).set := by rwa [View.setOn_univ, View.set_slice_whole] at h
      rw [mem_rBlk] at h'
      refine hf i ?_
      have h'' : ¬ (128 * g ≤ (i 0).val ∧ (i 0).val < 128 * g + 128) := h'
      omega
  iexact Ho

end Ov

/-! ## The second pass: raising the running sums, and copying them out -/

section Out
variable (xs : Dev nD → XBuf F) (c : Dev nD)

/-- Chunk `k`: copied out, in flight, raised, or not yet raised. -/
def outRes (s q w : ℕ) (k : Fin 16) : sProp 𝕄 :=
  if k.val < w then iprop(yPts c k (out2 xs c) ∗ ovPts c k (out2 xs c) ∗ semVal ((c : Thread nD τ), .dma (outS k)) 0)
  else if k.val < q then Transfers.Flight EC (c : Thread nD τ) (.dma (outS k)) () Nout iprop(yPts c k (out2 xs c) ∗ ovPts c k (out2 xs c))
  else if k.val < s then iprop((∃ f, yPts c k f) ∗ ovPts c k (out2 xs c) ∗ semVal ((c : Thread nD τ), .dma (outS k)) 0)
  else iprop((∃ f, yPts c k f) ∗ ovPts c k (out1 (xs c)) ∗ semVal ((c : Thread nD τ), .dma (outS k)) 0)

def Out (s q w : ℕ) : sProp 𝕄 := bigSep Finset.univ (outRes xs c s q w)

theorem outRes_done {s q w : ℕ} {k : Fin 16} (h : k.val < w) :
    outRes xs c s q w k = iprop(yPts c k (out2 xs c) ∗ ovPts c k (out2 xs c) ∗ semVal ((c : Thread nD τ), .dma (outS k)) 0) := if_pos h
theorem outRes_flight {s q w : ℕ} {k : Fin 16} (h : ¬ k.val < w) (h' : k.val < q) :
    outRes xs c s q w k = Transfers.Flight EC (c : Thread nD τ) (.dma (outS k)) () Nout iprop(yPts c k (out2 xs c) ∗ ovPts c k (out2 xs c)) := by
  unfold outRes; rw [if_neg h, if_pos h']
theorem outRes_raised {s q w : ℕ} {k : Fin 16} (h : ¬ k.val < w) (h' : ¬ k.val < q) (h'' : k.val < s) :
    outRes xs c s q w k = iprop((∃ f, yPts c k f) ∗ ovPts c k (out2 xs c) ∗ semVal ((c : Thread nD τ), .dma (outS k)) 0) := by
  unfold outRes; rw [if_neg h, if_neg h', if_pos h'']
theorem outRes_idle {s q w : ℕ} {k : Fin 16} (h : ¬ k.val < w) (h' : ¬ k.val < q) (h'' : ¬ k.val < s) :
    outRes xs c s q w k = iprop((∃ f, yPts c k f) ∗ ovPts c k (out1 (xs c)) ∗ semVal ((c : Thread nD τ), .dma (outS k)) 0) := by
  unfold outRes; rw [if_neg h, if_neg h', if_neg h'']

/-- Only chunk `n` sees one more raised, started or waited for. -/
theorem outRes_other {s q w s' q' w' n : ℕ} (hn : n < 16) (hs : s' = s ∨ (s = n ∧ s' = n + 1)) (hq : q' = q ∨ (q = n ∧ q' = n + 1))
    (hw : w' = w ∨ (w = n ∧ w' = n + 1)) (j : Fin 16) (h : j ≠ ⟨n, hn⟩) : outRes xs c s q w j = outRes xs c s' q' w' j := by
  have hj : j.val ≠ n := fun e => h (Fin.ext e)
  unfold outRes
  simp only [show (j.val < w') = (j.val < w) from propext (by omega), show (j.val < q') = (j.val < q) from propext (by omega),
    show (j.val < s') = (j.val < s) from propext (by omega)]

/-- A chunk landed in the array holds the result's. -/
theorem out_landed (k : Fin 16) (fd : YBuf F) :
    ((yV k).view.loc (c : Thread nD τ) ↦[(yV k).view.set]{fullShare}
        ((yV k).view.write (Elt F) fd ((ReadAs.same : ReadAs (Elt F) S256x1024 .bf16 S256x1024 .bf16).apply ((ovV k).view.read (Elt F) (out2 xs c))) Finset.univ) : sProp 𝕄)
      = yPts c k (out2 xs c) := by
  unfold yPts
  refine pointsTo_congr fun i hi => ?_
  have e : (ovV k).view.read (Elt F) (out2 xs c) = (yV k).view.read (Elt F) (out2 xs c) := rfl
  show (yV k).view.write (Elt F) fd ((ovV k).view.read (Elt F) (out2 xs c)) Finset.univ i = out2 xs c i
  rw [e, View.write_read_eq_piecewise, View.setOn_univ, Finset.piecewise_eq_of_mem _ _ _ hi]

/-- A load of chunk `n` of the running sums. -/
theorem step_load_out (n : ℕ) (hn : n < 16) {hl : ovM.view.LoadsAt (rChk ⟨n, hn⟩).toLoadRect}
    {α : Type} {k : Vec F S256x1024 .bf16 → Prog (TpuEff nD τ sig (Elt F) Λ₀ .tc) α} {Q : α → sProp 𝕄} :
    Out xs c n n 0 ⊢ iprop((Out xs c n n 0 -∗ Wp c (k (chk1 (xs c) ⟨n, hn⟩)) Q)
      -∗ Wp c (Prog.lift (.load ovM (rChk ⟨n, hn⟩).toLoadRect hl) >>= k) Q) := by
  unfold Out
  refine (bigSep_take_put _ _ (⟨n, hn⟩ : Fin 16) (fun _ _ => rfl)).trans ?_
  rw [outRes_idle xs c (Nat.not_lt_zero _) (Nat.lt_irrefl n) (Nat.lt_irrefl n)]
  iintro ⟨⟨Hy, Ho, Hv⟩, Hput⟩ Hk
  unfold ovPts
  simp only [Prog.lift, Prog.bind_op, Prog.bind_ret]
  iapply (wp_load 𝒱₀ (c : Thread nD τ) none Set.univ (m := ovM) (by rw [View.set_slice]; exact Finset.Subset.refl _)) $$ Ho
  iintro Ho
  iapply Hk
  iapply Hput
  isplitl [Hy]; · iexact Hy
  isplitl [Ho] <;> iassumption

/-- The store of chunk `n` of the result. -/
theorem step_store_out (n : ℕ) (hn : n < 16) {w : Vec F S256x1024 .bf16} (hw : w = o256 xs c ⟨n, hn⟩)
    {hx : (ovM.access (rChk ⟨n, hn⟩)).Stores Finset.univ} {hm}
    {α : Type} {k : PUnit → Prog (TpuEff nD τ sig (Elt F) Λ₀ .tc) α} {Q : α → sProp 𝕄} :
    Out xs c n n 0 ⊢ iprop((Out xs c (n + 1) n 0 -∗ Wp c (k ⟨⟩) Q)
      -∗ Wp c (Prog.lift (.store ovM (rChk ⟨n, hn⟩) w Finset.univ hx hm) >>= k) Q) := by
  subst hw
  unfold Out
  refine (bigSep_take_put _ _ (⟨n, hn⟩ : Fin 16) (outRes_other xs c hn (.inr ⟨rfl, rfl⟩) (.inl rfl) (.inl rfl))).trans ?_
  rw [outRes_idle xs c (Nat.not_lt_zero _) (Nat.lt_irrefl n) (Nat.lt_irrefl n),
    outRes_raised xs c (Nat.not_lt_zero _) (Nat.lt_irrefl n) (Nat.lt_succ_self n)]
  iintro ⟨⟨Hy, Ho, Hv⟩, Hput⟩ Hk
  unfold ovPts
  simp only [Prog.lift, Prog.bind_op, Prog.bind_ret]
  iapply (wp_store 𝒱₀ (c : Thread nD τ) none Set.univ (m := ovM) (r := rChk ⟨n, hn⟩) (Mk := Finset.univ) (S := (ovV ⟨n, hn⟩).view.set) (f := out1 (xs c)) (Finset.Subset.refl _)) $$ Ho
  iintro Ho
  iapply Hk
  iapply Hput
  isplitl [Hy]; · iexact Hy
  isplitl [Ho]
  · iapply (Entails.of_eq (pointsTo_congr (fun i hi => by
      obtain ⟨j, -, rfl⟩ := Finset.mem_map.mp hi
      rw [View.write_emb_of_mem _ _ (Finset.mem_univ _)]
      exact (out2_chk xs c ⟨n, hn⟩ j).symm))) $$ Ho
  iexact Hv

theorem step_out_start (n : ℕ) (hn : n < 16) {hsrc : (ovV ⟨n, hn⟩).view.WordExact} {hdst : (yV ⟨n, hn⟩).view.WordExact}
    {hsem : DmaTarget.Typed (nD := nD) .vmem (.dma (outS ⟨n, hn⟩)) (.here (yV ⟨n, hn⟩) : DmaTarget nD τ sig .tc .hbm S256x1024 .bf16)}
    {α : Type} {k : PUnit → Prog (TpuEff nD τ sig (Elt F) Λ₀ .tc) α} {Q : α → sProp 𝕄} :
    Out xs c (n + 1) n 0 ⊢ iprop((Out xs c (n + 1) (n + 1) 0 -∗ Wp c (k ⟨⟩) Q)
      -∗ Wp c (Prog.lift (.enqueueDma (ovV ⟨n, hn⟩) (.here (yV ⟨n, hn⟩)) (.dma (outS ⟨n, hn⟩)) hsrc hdst hsem) >>= k) Q) := by
  unfold Out
  refine (bigSep_take_put _ _ (⟨n, hn⟩ : Fin 16) (outRes_other xs c hn (.inl rfl) (.inr ⟨rfl, rfl⟩) (.inl rfl))).trans ?_
  rw [outRes_raised xs c (Nat.not_lt_zero _) (Nat.lt_irrefl n) (Nat.lt_succ_self n), outRes_flight xs c (Nat.not_lt_zero _) (Nat.lt_succ_self n)]
  iintro ⟨⟨⟨%f, Hy⟩, Ho, Hv⟩, Hput⟩ Hk
  unfold yPts ovPts
  simp only [Prog.lift, Prog.bind_op, Prog.bind_ret]
  iapply (Transfers.wp_dmaLocal EC 𝒱₀ (c : Thread nD τ) none () Nout rfl Nout_pos (Finset.Subset.refl _)) $$ [Hy Ho Hv]
  · isplitl [Ho]; · iexact Ho
    isplitl [Hy]; · iexact Hy
    iexact Hv
  iintro Hf
  iapply Hk
  iapply Hput
  iapply (Transfers.Flight_mono EC (c : Thread nD τ) (sep_mono_left (Entails.of_eq (out_landed xs c ⟨n, hn⟩ f)))) $$ Hf

theorem step_out_wait (n : ℕ) (hn : n < 16) {hsrc : (ovV ⟨n, hn⟩).view.WordExact} {hdst : (yV ⟨n, hn⟩).view.WordExact}
    {α : Type} {k : PUnit → Prog (TpuEff nD τ sig (Elt F) Λ₀ .tc) α} {Q : α → sProp 𝕄} :
    Out xs c 16 16 n ⊢ iprop(OwZ c -∗ (Out xs c 16 16 (n + 1) -∗ OwZ c -∗ Wp c (k ⟨⟩) Q)
      -∗ Wp c (Prog.lift (.waitDma2 (outS ⟨n, hn⟩) (ovV ⟨n, hn⟩) (yV ⟨n, hn⟩) hsrc hdst) >>= k) Q) := by
  unfold Out OwZ
  refine (bigSep_take_put _ _ (⟨n, hn⟩ : Fin 16) (outRes_other xs c hn (.inl rfl) (.inl rfl) (.inr ⟨rfl, rfl⟩))).trans ?_
  rw [outRes_flight xs c (Nat.lt_irrefl n) hn, outRes_done xs c (Nat.lt_succ_self n)]
  iintro ⟨Hf, Hput⟩ ⟨%W, HO⟩ Hk
  simp only [Prog.lift, Prog.bind_op, Prog.bind_ret]
  iapply (Transfers.wp_waitLocalO EC 𝒱₀ (c : Thread nD τ) none () rfl) $$ [Hf HO]
  · isplitl [Hf]; · iexact Hf
    isplitl [HO]; · iexact HO
    rw [MayWait_zero]; iempintro
  iintro ⟨⟨Hy, Ho⟩, Hv, HO⟩
  ihave HI := Hput $$ [Hy Ho Hv]
  · isplitl [Hy]; · iexact Hy
    isplitl [Ho] <;> iassumption
  iapply Hk $$ HI [HO]
  iexists _; iexact HO

end Out

end Cert.Scan

end
-- ==== Proof.Remote.lean ====
/-
# `Remote` — the operations between the devices

Every device signals every other one, handing the earlier ones their row of its table; waits for the fifteen
signals meant for it; copies its total to the row of every later device; and waits for what the earlier ones
copied, and for its own copies to be read.

The families here count how far each of these has come: `Sg c n` has signalled the devices below `n`,
`Snd xs c s w` has offered its total to the devices below `s` and got the shares of those below `w` back,
`Rc xs c n` has received the totals of the devices below `n`. Each theorem is one operation, or one conditional
operation, at a symbolic peer; the conditions compare the peer with the device.
-/
module

public import proofs.«01_k».proof.Proof.Local

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F)

/-! ## The cells and their records -/

/-- The cells of one device: its barrier, its send cells, its receive cells. -/
abbrev CI : Type := Unit ⊕ (Dev nD ⊕ Dev nD)

def kcell : Dev nD × CI → GSem nD τ sig
  | (c, .inl _) => barCell c
  | (c, .inr (.inl j)) => sendCell c j
  | (c, .inr (.inr k)) => recvCell c k

abbrev iBar (c : Dev nD) : Dev nD × CI := (c, .inl ())
abbrev iSend (c j : Dev nD) : Dev nD × CI := (c, .inr (.inl j))
abbrev iRecv (c k : Dev nD) : Dev nD × CI := (c, .inr (.inr k))

variable (K : Dev nD × CI → ℕ)

/-- What every device knows: the cells' invariants, and that each is at its round. -/
def Ctx : sProp 𝕄 :=
  iprop((bigSep Finset.univ fun i => cellInv ER (Rd xs) (K i) (kcell i)) ∗ bigSep Finset.univ fun i => reached ER (kcell i) 0)

instance Ctx_persistent : BI.Persistent (Ctx (F := F) xs K) := by unfold Ctx; infer_instance

theorem ctx_inv (i : Dev nD × CI) : Ctx xs K ⊢ cellInv ER (Rd xs) (K i) (kcell i) := by
  unfold Ctx
  iintro ⟨H, -⟩
  iapply (show (bigSep Finset.univ fun i => (cellInv ER (Rd xs) (K i) (kcell i) : sProp 𝕄)) ⊢ cellInv ER (Rd xs) (K i) (kcell i) from
    bigSep_elim (Finset.mem_univ i)) $$ H
theorem ctx_reached (i : Dev nD × CI) : Ctx xs K ⊢ reached ER (kcell i) 0 := by
  unfold Ctx
  iintro ⟨-, H⟩
  iapply (show (bigSep Finset.univ fun i => (reached ER (kcell i) 0 : sProp 𝕄)) ⊢ reached ER (kcell i) 0 from bigSep_elim (Finset.mem_univ i)) $$ H

variable (c : Dev nD)

/-! ## The signals -/

/-- What device `c` spends on its signal to device `p`: the duty, and the row it hands over. -/
def sgPre (p : Dev nD) : sProp 𝕄 := if p = c then iprop(emp) else iprop(dutyTok ER (barCell p) 0 c ∗ barPay p c)
def sgRes (n : ℕ) (p : Dev nD) : sProp 𝕄 := if p.val < n then iprop(emp) else sgPre c p
def Sg (n : ℕ) : sProp 𝕄 := bigSep Finset.univ (sgRes (F := F) c n)

theorem sgRes_other {n : ℕ} (hn : n < 16) (j : Dev nD) (h : j ≠ ⟨n, hn⟩) : sgRes (F := F) c n j = sgRes c (n + 1) j := by
  have hj : j.val ≠ n := fun e => h (Fin.ext e)
  unfold sgRes
  simp only [show (j.val < n + 1) = (j.val < n) from propext (by omega)]

theorem step_signal (p : ℕ) (hp : p < 16) {s : ℕ} {cond : BitVec 1} (hc : cond = 1#1 ↔ c.val ≠ p)
    {d : cond = 1#1 → Dev nD} (hd : ∀ h, (d h).val = p)
    {α : Type} {k : Prog (TpuEff nD τ sig (Elt F) Λ₀ .tc) α} {Q : α → sProp 𝕄} :
    Ctx xs K ⊢ iprop(Sg c p -∗ OwS c p s -∗ (Sg c (p + 1) -∗ OwS c (p + 1) s -∗ Wp c k Q)
      -∗ Wp c (dite (cond = 1#1) (fun h => semSignalWord (d h) barA.sem 1#32 >>= fun _ => k) (fun _ => k)) Q) := by
  unfold Sg OwS
  iintro #HC HS ⟨%W, HO⟩ Hk
  ihave HS2 := (bigSep_take_put _ _ (⟨p, hp⟩ : Dev nD) (sgRes_other c hp)) $$ HS
  have h0 : sgRes (F := F) c p ⟨p, hp⟩ = sgPre c ⟨p, hp⟩ := if_neg (Nat.lt_irrefl p)
  have h1 : sgRes (F := F) c (p + 1) ⟨p, hp⟩ = iprop(emp) := if_pos (Nat.lt_succ_self p)
  rw [h0, h1]
  icases HS2 with ⟨Hp, Hput⟩
  by_cases h : c.val = p
  · rw [dif_neg (fun hh => hc.mp hh h)]
    have hcp : c = ⟨p, hp⟩ := Fin.ext h
    subst h
    ihave HS := Hput $$ []
    · iempintro
    iapply Hk $$ HS [HO]
    iexists W
    rw [← Ow_bar_skip c s]; iexact HO
  · rw [dif_pos (hc.mpr h)]
    have hdp : d (hc.mpr h) = ⟨p, hp⟩ := Fin.ext (hd _)
    rw [hdp]
    have hne : (⟨p, hp⟩ : Dev nD) ≠ c := fun e => h (by rw [← e])
    ihave Hp := (Entails.of_eq (show sgPre (F := F) c ⟨p, hp⟩ = iprop(dutyTok ER (barCell ⟨p, hp⟩) 0 c ∗ barPay ⟨p, hp⟩ c) from if_neg hne)) $$ Hp
    icases Hp with ⟨Ht, Hpay⟩
    simp only [semSignalWord, Prog.bind_op, Prog.bind_ret]
    iapply (Rounds.wp_signal 𝒱₀ ER (Rd xs) (c : Thread nD τ) none (dst := ((⟨p, hp⟩ : Dev nD) : Thread nD τ)) (κ := K (iBar ⟨p, hp⟩))
        (r := 0) (d := c) (by rw [duties_bar]; exact Finset.mem_erase.mpr ⟨hne.symm, Finset.mem_univ _⟩)
        ((amount_bar xs ⟨p, hp⟩ c).trans (by decide)) () (Ow c (p + 1) s) (Ow_bar_step c ⟨p, hp⟩ s hne))
      $$ [HO Ht Hpay]
    · isplitr; · iapply (ctx_inv xs K (iBar ⟨p, hp⟩)); iexact HC
      isplitl [HO]; · iexact HO
      isplitl [Ht]; · iexact Ht
      isplitl [Hpay]; · rw [payload_bar]; iexact Hpay
      iapply (ctx_reached xs K (iBar ⟨p, hp⟩)); iexact HC
    iintro HO
    ihave HS := Hput $$ []
    · iempintro
    iapply Hk $$ HS [HO]
    iexists W; iexact HO

/-! ## The barrier -/

/-- A device's place at its barrier, and the credit its fifteen peers' signals come to. -/
def BarPre : sProp 𝕄 := iprop(atPos ER (barCell c) 0 ∅ 0 ∗ cred (tallyAt (barCell c) () 15))

theorem step_barrier {α : Type} {k : PUnit → Prog (TpuEff nD τ sig (Elt F) Λ₀ .tc) α} {Q : α → sProp 𝕄} :
    Ctx xs K ⊢ iprop(levAts L lv -∗ BarPre c -∗ OwS c 16 1
      -∗ (semVal (barCell c) 0 -∗ bigSep (Finset.univ.erase c) (barPay c) -∗ OwS c 16 1 -∗ Wp c (k ⟨⟩) Q)
      -∗ Wp c (semWaitWord barA.sem 15#32 >>= k) Q) := by
  unfold OwS BarPre
  iintro #HC #Hlev ⟨Hat, Hcr⟩ ⟨%W, HO⟩ Hk
  simp only [semWaitWord, Prog.bind_op, Prog.bind_ret]
  iapply (Rounds.wp_wait_rest_token 𝒱₀ ER (Rd xs) (c : Thread nD τ) none (κ := K (iBar c))
      (wpE_semWait_eq 𝒱₀ (c : Thread nD τ) none Set.univ) (Set.mem_univ _) () (O := Ow c 16 1) (W := W) (R := 0) (m := 0) (T := ∅)
      (by rw [expect_bar]; decide)) $$ [Hcr HO Hat]
  · isplitr; · iapply (ctx_inv xs K (iBar c)); iexact HC
    isplitl [Hcr]; · iexact Hcr
    isplitl [HO]; · iexact HO
    isplitr; · iapply (mayWait_bar c 1); iexact Hlev
    iexact Hat
  iintro ⟨HO, Hat, -, Hpay⟩
  ihave Hp := (Entails.of_eq (rest_bar xs c)) $$ Hpay
  imod (Rounds.cell_close ER (Rd xs) (Set.mem_univ (K (iBar c))) (fun h => h) (R := 0 + 1) (duties_later xs (barCell c))) $$ [Hat] with Hz
  · isplitr; · iapply (ctx_inv xs K (iBar c)); iexact HC
    iexact Hat
  iapply Hk $$ Hz Hp [HO]
  iexists _; iexact HO

/-! ## The total, and the copies of it -/

/-- The buffer of the total, before it is stored. -/
def Tt : sProp 𝕄 := iprop(∃ f : Buf (Elt F) (ttM.view.loc (c : Thread nD τ)), (ttM.view.loc (c : Thread nD τ) ↦{fullShare} f))

abbrev rTot : Rect S1x1024 := Rect.unit (s := S1x1024) ![0, 0] S1x1024.size inb_S1x1024_S1x1024_0_0

theorem step_dead_tot {hl : ttM.view.LoadsAt rTot.toLoadRect}
    {α : Type} {k : Vec F S1x1024 .f32 → Prog (TpuEff nD τ sig (Elt F) Λ₀ .tc) α} {Q : α → sProp 𝕄} :
    Tt c ⊢ iprop((∀ v, Tt c -∗ Wp c (k v) Q) -∗ Wp c (Prog.lift (.load ttM rTot.toLoadRect hl) >>= k) Q) := by
  unfold Tt
  iintro ⟨%f, Ho⟩ Hk
  simp only [Prog.lift, Prog.bind_op, Prog.bind_ret]
  iapply (wp_load 𝒱₀ (c : Thread nD τ) none Set.univ (m := ttM) (Finset.subset_univ _)) $$ Ho
  iintro Ho
  iapply Hk
  iexists f
  iexact Ho

/-- What is left of the total's buffer once sixteen shares are cut off it. -/
def totRest : sProp 𝕄 := totM.view.loc (c : Thread nD τ) ↦[totM.view.set]{Transfers.shareDrop fullShare 16} (total (xs c))

theorem tot_set : totM.view.set = Finset.univ := by
  rw [View.set_reshape, View.set_slice_whole]
  ext i
  simp only [Finset.mem_univ, iff_true, Rect.mem_set_unit]
  intro a
  match a with
  | ⟨0, _⟩ => exact ⟨Nat.zero_le _, by have := (i 0).isLt; show (i 0).val < 0 + 1; rw [Nat.zero_add]; exact this⟩
  | ⟨1, _⟩ => exact ⟨Nat.zero_le _, by have := (i 1).isLt; show (i 1).val < 0 + 1024; rw [Nat.zero_add]; exact this⟩

theorem hz2 : (![0, 0] : Fin 2 → Nat) = fun _ => 0 := funext fun a => by fin_cases a <;> rfl

theorem step_store_tot {w : Vec F S1x1024 .f32} (hw : w = total (xs c)) {hx : (ttM.access rTot).Stores Finset.univ} {hm}
    {α : Type} {k : PUnit → Prog (TpuEff nD τ sig (Elt F) Λ₀ .tc) α} {Q : α → sProp 𝕄} :
    Tt c ⊢ iprop((totRest xs c -∗ bigSep Finset.univ (fun j => totPts c j (total (xs c))) -∗ Wp c (k ⟨⟩) Q)
      -∗ Wp c (Prog.lift (.store ttM rTot w Finset.univ hx hm) >>= k) Q) := by
  subst hw
  unfold Tt
  iintro ⟨%f, Ho⟩ Hk
  simp only [Prog.lift, Prog.bind_op, Prog.bind_ret]
  iapply (wp_store 𝒱₀ (c : Thread nD τ) none Set.univ (m := ttM) (r := rTot) (Mk := Finset.univ) (S := Finset.univ) (f := f) (Finset.subset_univ _)) $$ Ho
  iintro Ho
  have e : (ttM.access rTot).write (Elt F) f (total (xs c)) Finset.univ = total (xs c) := Memref.write_access_unit_zero_univ (Elt F) cc0_scratch2 hz2 _ f _
  rw [e]
  ihave H := (Transfers.pointsTo_toks_split fullShare 16) $$ Ho
  icases H with ⟨Hd, Ht⟩
  unfold totRest totPts
  rw [tot_set]
  iapply Hk $$ Hd Ht

/-- Device `c`'s hold on its copy to device `j` before the barrier. -/
def sndPre (j : Dev nD) : sProp 𝕄 :=
  iprop(atPos ER (sendCell c j) 0 ∅ 0 ∗ if c.val < j.val then iprop(dutyTok ER (sendCell c j) 0 0 ∗ dutyTok ER (recvCell j c) 0 0) else iprop(emp))

/-- The copy of device `c`'s total to device `j`: read, under way, or not yet offered. -/
def sndRes (s w : ℕ) (j : Dev nD) : sProp 𝕄 :=
  if j.val < w then iprop(totPts c j (total (xs c)) ∗ semVal (sendCell c j) 0)
  else if c.val < j.val then
    (if j.val < s then iprop(atPos ER (sendCell c j) 0 ∅ 0 ∗ cred (tallyAt (sendCell c j) () N))
      else iprop(atPos ER (sendCell c j) 0 ∅ 0 ∗ (dutyTok ER (sendCell c j) 0 0 ∗ dutyTok ER (recvCell j c) 0 0)
        ∗ totPts c j (total (xs c)) ∗ ∃ f, rowPts j c f))
  else iprop(atPos ER (sendCell c j) 0 ∅ 0 ∗ totPts c j (total (xs c)))
def Snd (s w : ℕ) : sProp 𝕄 := bigSep Finset.univ (sndRes xs c s w)

theorem sndRes_other {s w s' w' n : ℕ} (hn : n < 16) (hs : s' = s ∨ (s = n ∧ s' = n + 1)) (hw : w' = w ∨ (w = n ∧ w' = n + 1))
    (j : Dev nD) (h : j ≠ ⟨n, hn⟩) : sndRes xs c s w j = sndRes xs c s' w' j := by
  have hj : j.val ≠ n := fun e => h (Fin.ext e)
  unfold sndRes
  simp only [show (j.val < w') = (j.val < w) from propext (by omega), show (j.val < s') = (j.val < s) from propext (by omega)]

/-- A landed row of a later device's table holds the total. -/
theorem row_landed (p j : Dev nD) (fd : Buf (Elt F) ((rowM p).view.loc (j : Thread nD τ))) :
    ((rowM p).view.loc (j : Thread nD τ) ↦[(rowM p).view.set]{fullShare}
        ((rowM p).view.write (Elt F) fd (totM.view.read (Elt F) (total (xs p))) Finset.univ) : sProp 𝕄)
      = rowPts j p (totals xs) := by
  unfold rowPts
  refine pointsTo_congr fun i hi => ?_
  have e : totM.view.read (Elt F) (total (xs p)) = (rowM p).view.read (Elt F) (totals xs) := by
    funext y
    obtain ⟨z, hz⟩ : ∃ z : S1x1024.Idx, z = Shape.reshapeEquiv (squeezes_S1x1024_S1024).numel_eq y := ⟨_, rfl⟩
    show total (xs p) (rTot.emb (Shape.reshapeEquiv _ y)) = totals xs ((rRow p).emb (Shape.reshapeEquiv _ y))
    rw [← hz]
    have hz0 : (z 0).val < 1 := (z 0).isLt
    have h0 : (((rRow p).emb z) 0).val = p.val + 1 * (z 0).val := rfl
    have h1 : (((rRow p).emb z) 1).val = 0 + 1 * (z 1).val := rfl
    unfold totals
    rw [show (⟨(((rRow p).emb z) 0).val, (((rRow p).emb z) 0).isLt⟩ : Dev nD) = p from Fin.ext (by show (((rRow p).emb z) 0).val = p.val; omega)]
    congr 1
    funext a
    apply Fin.ext
    match a with
    | ⟨0, _⟩ => show 0 + 1 * (z 0).val = 0; omega
    | ⟨1, _⟩ => show 0 + 1 * (z 1).val = (((rRow p).emb z) 1).val; omega
  rw [e, View.write_read_eq_piecewise, View.setOn_univ, Finset.piecewise_eq_of_mem _ _ _ hi]

/-- The copy's destination and semaphores as the kernel names them, at offsets it computes. -/
abbrev rowAt (o2 : Fin 2 → ℕ) (b2 : ∀ a, o2 a + S1x1024.size a ≤ S16x1024.size a) : Memref sig .tc .vmem S1024 .f32 :=
  (cmM.slice (Rect.unit (s := S16x1024) o2 S1x1024.size b2) (fun _ => rfl)).squeeze S1024 squeezes_S1x1024_S1024
abbrev recvAt (o1 : Fin 1 → ℕ) (b1 : ∀ a, o1 a + S1.size a ≤ S16.size a) : DmaSem sig :=
  ((cc0_scratch7.slice (Rect.unit (s := S16) o1 S1.size b1)).squeeze S_ squeezes_S1_S_).sem

theorem step_send (j : ℕ) (hj : j < 16) {cond : BitVec 1} (hc : cond = 1#1 ↔ c.val < j)
    {d : cond = 1#1 → Dev nD} (hd : ∀ h, (d h).val = j) {o1 : Fin 1 → ℕ} {o2 : Fin 2 → ℕ} (ho1 : o1 = ![c.val]) (ho2 : o2 = ![c.val, 0])
    {b1 : cond = 1#1 → ∀ a, o1 a + S1.size a ≤ S16.size a} {b2 : cond = 1#1 → ∀ a, o2 a + S1x1024.size a ≤ S16x1024.size a}
    {hsrc : cond = 1#1 → totM.view.WordExact}
    {hdst : ∀ h, (rowAt o2 (b2 h)).view.WordExact}
    {hsem : ∀ h, DmaTarget.Typed (nD := nD) (τ := τ) (p := .tc) .vmem (.dma (recvAt o1 (b1 h))) (.remote (Dev.tc (d h)) (rowAt o2 (b2 h)) (.dma (sendS ⟨j, hj⟩)))}
    {α : Type} {k : Prog (TpuEff nD τ sig (Elt F) Λ₀ .tc) α} {Q : α → sProp 𝕄} :
    Ctx xs K ⊢ iprop(Snd xs c j 0 -∗ OwS c 16 j -∗ (Snd xs c (j + 1) 0 -∗ OwS c 16 (j + 1) -∗ Wp c k Q)
      -∗ Wp c (dite (cond = 1#1)
        (fun h => Prog.lift (.enqueueDma totM (.remote (Dev.tc (d h)) (rowAt o2 (b2 h)) (.dma (sendS ⟨j, hj⟩)))
            (.dma (recvAt o1 (b1 h))) (hsrc h) (hdst h) (hsem h))
          >>= fun _ => k) (fun _ => k)) Q) := by
  subst ho1 ho2
  unfold Snd OwS
  iintro #HC HS ⟨%W, HO⟩ Hk
  ihave HS2 := (bigSep_take_put _ _ (⟨j, hj⟩ : Dev nD) (sndRes_other xs c hj (.inr ⟨rfl, rfl⟩) (.inl rfl))) $$ HS
  icases HS2 with ⟨Hp, Hput⟩
  by_cases h : c.val < j
  · rw [dif_pos (hc.mpr h)]
    have hdp : d (hc.mpr h) = ⟨j, hj⟩ := Fin.ext (hd _)
    have e0 : sndRes xs c j 0 ⟨j, hj⟩ = iprop(atPos ER (sendCell c ⟨j, hj⟩) 0 ∅ 0
        ∗ (dutyTok ER (sendCell c ⟨j, hj⟩) 0 0 ∗ dutyTok ER (recvCell ⟨j, hj⟩ c) 0 0)
        ∗ totPts c ⟨j, hj⟩ (total (xs c)) ∗ ∃ f, rowPts ⟨j, hj⟩ c f) := by
      unfold sndRes; rw [if_neg (Nat.not_lt_zero _), if_pos h, if_neg (Nat.lt_irrefl j)]
    have e1 : sndRes xs c (j + 1) 0 ⟨j, hj⟩ = iprop(atPos ER (sendCell c ⟨j, hj⟩) 0 ∅ 0 ∗ cred (tallyAt (sendCell c ⟨j, hj⟩) () N)) := by
      unfold sndRes; rw [if_neg (Nat.not_lt_zero _), if_pos h, if_pos (Nat.lt_succ_self j)]
    ihave Hp := (Entails.of_eq e0) $$ Hp
    icases Hp with ⟨Hat, ⟨Ht1, Ht2⟩, Htot, ⟨%f, Hrow⟩⟩
    unfold totPts rowPts
    generalize hsem (hc.mpr h) = hs
    revert hs
    rw [hdp]
    intro hs
    simp only [Prog.lift, Prog.bind_op, Prog.bind_ret]
    iapply (Rounds.wp_send_pointsTo 𝒱₀ ER (Rd xs) (c : Thread nD τ) none (κ₁ := K (iSend c ⟨j, hj⟩)) (κ₂ := K (iRecv ⟨j, hj⟩ c))
        (c' := ((⟨j, hj⟩ : Dev nD) : Thread nD τ)) (src := totM) (dst := rowM c) (sS := .dma (sendS ⟨j, hj⟩)) (sem := .dma (recvS c))
        (r₁ := 0) (r₂ := 0) (d₁ := 0) (d₂ := 0) (fs := total (xs c)) (fd := f) (q := Transfers.shareTok fullShare 16 ⟨j, hj⟩)
        (by rw [duties_send, if_pos h]; exact Finset.mem_singleton_self _) (by rw [duties_recv, if_pos h]; exact Finset.mem_singleton_self _)
        () () N rfl (amount_send xs c ⟨j, hj⟩ 0) (amount_recv xs ⟨j, hj⟩ c 0) (Ow c 16 (j + 1)) (Ow_send_step c ⟨j, hj⟩ 16 h) (W := W)
        (by rw [payload_send]; exact BI.Entails.refl _)
        (by rw [payload_recv]; unfold recvPay; rw [row_landed])) $$ [Ht1 Ht2 Htot Hrow HO]
    · isplitr; · iapply (ctx_inv xs K (iSend c ⟨j, hj⟩)); iexact HC
      isplitr; · iapply (ctx_inv xs K (iRecv ⟨j, hj⟩ c)); iexact HC
      isplitl [Htot]; · iexact Htot
      isplitl [Hrow]; · iexact Hrow
      isplitl [HO]; · iexact HO
      isplitl [Ht1]; · iexact Ht1
      isplitr; · iapply (ctx_reached xs K (iSend c ⟨j, hj⟩)); iexact HC
      isplitl [Ht2]; · iexact Ht2
      iapply (ctx_reached xs K (iRecv ⟨j, hj⟩ c)); iexact HC
    iintro ⟨Hcr, HO⟩
    rw [e1]
    ihave HS := Hput $$ [Hat Hcr]
    · isplitl [Hat] <;> iassumption
    iapply Hk $$ HS [HO]
    iexists W; iexact HO
  · rw [dif_neg (fun hh => h (hc.mp hh))]
    have e : sndRes xs c j 0 ⟨j, hj⟩ = sndRes xs c (j + 1) 0 ⟨j, hj⟩ := by
      unfold sndRes
      simp only [if_neg (show ¬ c.val < (⟨j, hj⟩ : Dev nD).val from h)]
    ihave Hp := (Entails.of_eq e) $$ Hp
    ihave HS := Hput $$ Hp
    iapply Hk $$ HS [HO]
    iexists W
    rw [← Ow_send_skip c ⟨j, hj⟩ 16 h]; iexact HO

/-- A device's own cell closes once its round is over: the counter at zero is its own again. -/
theorem close_cell (i : Dev nD × CI) (g : GSem nD τ sig) (e : kcell i = g) (R : ℕ) (hR : ∀ r, R ≤ r → (Rd (F := F) xs).duties g r = ∅) :
    Ctx xs K ⊢ iprop(atPos ER g R ∅ 0 -∗ |={Set.univ}=> semVal g 0) := by
  subst e
  iintro #HC Hat
  iapply (Rounds.cell_close ER (Rd xs) (Set.mem_univ (K i)) (fun h => h) (R := R) hR)
  isplitr; · iapply (ctx_inv xs K i); iexact HC
  iexact Hat

/-- The wait for the copy to device `j`: the share of the total it read is back. -/
theorem step_send_wait (j : ℕ) (hj : j < 16) {cond : BitVec 1} (hc : cond = 1#1 ↔ c.val < j)
    {o2 : Fin 2 → ℕ} {b2 : cond = 1#1 → ∀ a, o2 a + S1x1024.size a ≤ S16x1024.size a}
    {hsrc : ∀ h, (rowAt o2 (b2 h)).view.WordExact} {hdst : cond = 1#1 → totM.view.WordExact}
    {α : Type} {k : Prog (TpuEff nD τ sig (Elt F) Λ₀ .tc) α} {Q : α → sProp 𝕄} :
    Ctx xs K ⊢ iprop(Snd xs c 16 j -∗ OwZ c -∗ (Snd xs c 16 (j + 1) -∗ OwZ c -∗ Wp c k Q)
      -∗ Wp c (dite (cond = 1#1)
        (fun h => Prog.lift (.waitDma2 (sendS ⟨j, hj⟩) (rowAt o2 (b2 h)) totM (hsrc h) (hdst h)) >>= fun _ => k) (fun _ => k)) Q) := by
  unfold Snd OwZ
  iintro #HC HS ⟨%W, HO⟩ Hk
  ihave HS2 := (bigSep_take_put _ _ (⟨j, hj⟩ : Dev nD) (sndRes_other xs c hj (.inl rfl) (.inr ⟨rfl, rfl⟩))) $$ HS
  icases HS2 with ⟨Hp, Hput⟩
  have e1 : sndRes xs c 16 (j + 1) ⟨j, hj⟩ = iprop(totPts c ⟨j, hj⟩ (total (xs c)) ∗ semVal (sendCell c ⟨j, hj⟩) 0) := if_pos (Nat.lt_succ_self j)
  rw [e1]
  by_cases h : c.val < j
  · rw [dif_pos (hc.mpr h)]
    have e0 : sndRes xs c 16 j ⟨j, hj⟩ = iprop(atPos ER (sendCell c ⟨j, hj⟩) 0 ∅ 0 ∗ cred (tallyAt (sendCell c ⟨j, hj⟩) () N)) := by
      unfold sndRes; rw [if_neg (Nat.lt_irrefl j), if_pos h, if_pos hj]
    ihave Hp := (Entails.of_eq e0) $$ Hp
    icases Hp with ⟨Hat, Hcr⟩
    simp only [Prog.lift, Prog.bind_op, Prog.bind_ret]
    iapply (Rounds.wp_wait_rest_token 𝒱₀ ER (Rd xs) (c : Thread nD τ) none (κ := K (iSend c ⟨j, hj⟩))
        (wpE_waitDma2_eq 𝒱₀ (c : Thread nD τ) none Set.univ) (Set.mem_univ _) () (O := 0) (W := W) (R := 0) (m := 0) (T := ∅)
        (by rw [Nat.zero_add, expect_send xs c (j := ⟨j, hj⟩) h])) $$ [Hcr HO Hat]
    · isplitr; · iapply (ctx_inv xs K (iSend c ⟨j, hj⟩)); iexact HC
      isplitl [Hcr]; · iexact Hcr
      isplitl [HO]; · iexact HO
      isplitr; · rw [MayWait_zero]; iempintro
      iexact Hat
    iintro ⟨HO, Hat, -, Hpay⟩
    ihave Htot := (Entails.of_eq (rest_send xs c (j := ⟨j, hj⟩) h)) $$ Hpay
    unfold sendPay
    imod (close_cell xs K (iSend c ⟨j, hj⟩) (sendCell c ⟨j, hj⟩) rfl (0 + 1) (duties_later xs _)) $$ HC Hat with Hz
    ihave HS := Hput $$ [Htot Hz]
    · isplitl [Htot] <;> iassumption
    iapply Hk $$ HS [HO]
    iexists _; iexact HO
  · rw [dif_neg (fun hh => h (hc.mp hh))]
    have e0 : sndRes xs c 16 j ⟨j, hj⟩ = iprop(atPos ER (sendCell c ⟨j, hj⟩) 0 ∅ 0 ∗ totPts c ⟨j, hj⟩ (total (xs c))) := by
      unfold sndRes; rw [if_neg (Nat.lt_irrefl j), if_neg (show ¬ c.val < (⟨j, hj⟩ : Dev nD).val from h)]
    ihave Hp := (Entails.of_eq e0) $$ Hp
    icases Hp with ⟨Hat, Htot⟩
    imod (close_cell xs K (iSend c ⟨j, hj⟩) (sendCell c ⟨j, hj⟩) rfl 0 (duties_of_zero xs (by
      show (Rd xs).duties (sendCell c ⟨j, hj⟩) 0 = ∅
      rw [duties_send, if_neg (show ¬ c.val < (⟨j, hj⟩ : Dev nD).val from h)]))) $$ HC Hat with Hz
    ihave HS := Hput $$ [Htot Hz]
    · isplitl [Htot] <;> iassumption
    iapply Hk $$ HS [HO]
    iexists _; iexact HO

/-- The family once every share is back; nothing is copied to device 0, whose cell closes without a wait. -/
theorem snd_first {Q : sProp 𝕄} : Ctx xs K ⊢ iprop(Snd xs c 16 0 -∗ (Snd xs c 16 1 -∗ |={Set.univ}=> Q) -∗ |={Set.univ}=> Q) := by
  unfold Snd
  have h16 : 0 < 16 := by decide
  iintro #HC HS Hk
  ihave HS2 := (bigSep_take_put _ _ (⟨0, h16⟩ : Dev nD) (sndRes_other xs c h16 (.inl rfl) (.inr ⟨rfl, rfl⟩))) $$ HS
  icases HS2 with ⟨Hp, Hput⟩
  have e1 : sndRes xs c 16 (0 + 1) ⟨0, h16⟩ = iprop(totPts c ⟨0, h16⟩ (total (xs c)) ∗ semVal (sendCell c ⟨0, h16⟩) 0) := if_pos (Nat.lt_succ_self 0)
  have e0 : sndRes xs c 16 0 ⟨0, h16⟩ = iprop(atPos ER (sendCell c ⟨0, h16⟩) 0 ∅ 0 ∗ totPts c ⟨0, h16⟩ (total (xs c))) := by
    unfold sndRes; rw [if_neg (Nat.lt_irrefl 0), if_neg (Nat.not_lt_zero _)]
  rw [e1]
  ihave Hp := (Entails.of_eq e0) $$ Hp
  icases Hp with ⟨Hat, Htot⟩
  imod (close_cell xs K (iSend c ⟨0, h16⟩) (sendCell c ⟨0, h16⟩) rfl 0 (duties_of_zero xs
    ((duties_send xs c (0 : Fin 16)).trans (if_neg (Nat.not_lt_zero _))))) $$ HC Hat with Hz
  ihave HS := Hput $$ [Htot Hz]
  · isplitl [Htot] <;> iassumption
  iapply Hk $$ HS

/-! ## The copies of the earlier devices -/

/-- Row `k` of the table: landed and waited for, or not yet. -/
def rcRes (n : ℕ) (k : Dev nD) : sProp 𝕄 :=
  if k.val < n then iprop(semVal (recvCell c k) 0 ∗ ∃ f, ⌜k.val < c.val → f = totals xs⌝ ∗ rowPts c k f)
  else if k.val < c.val then iprop(atPos ER (recvCell c k) 0 ∅ 0 ∗ cred (tallyAt (recvCell c k) () N))
  else iprop(atPos ER (recvCell c k) 0 ∅ 0 ∗ ∃ f, rowPts c k f)
def Rc (n : ℕ) : sProp 𝕄 := bigSep Finset.univ (rcRes xs c n)

theorem rcRes_other {n : ℕ} (hn : n < 16) (j : Dev nD) (h : j ≠ ⟨n, hn⟩) : rcRes xs c n j = rcRes xs c (n + 1) j := by
  have hj : j.val ≠ n := fun e => h (Fin.ext e)
  unfold rcRes
  simp only [show (j.val < n + 1) = (j.val < n) from propext (by omega)]

/-- A row no earlier device writes: its cell closes without a wait. -/
theorem rc_skip (p : ℕ) (hp : p < 16) (h : ¬ p < c.val) {Q : sProp 𝕄} :
    Ctx xs K ⊢ iprop(Rc xs c p -∗ (Rc xs c (p + 1) -∗ |={Set.univ}=> Q) -∗ |={Set.univ}=> Q) := by
  unfold Rc
  iintro #HC HS Hk
  ihave HS2 := (bigSep_take_put _ _ (⟨p, hp⟩ : Dev nD) (rcRes_other xs c hp)) $$ HS
  icases HS2 with ⟨Hp, Hput⟩
  have e1 : rcRes xs c (p + 1) ⟨p, hp⟩ = iprop(semVal (recvCell c ⟨p, hp⟩) 0 ∗ ∃ f, ⌜p < c.val → f = totals xs⌝ ∗ rowPts c ⟨p, hp⟩ f) :=
    if_pos (Nat.lt_succ_self p)
  have e0 : rcRes xs c p ⟨p, hp⟩ = iprop(atPos ER (recvCell c ⟨p, hp⟩) 0 ∅ 0 ∗ ∃ f, rowPts c ⟨p, hp⟩ f) := by
    unfold rcRes; rw [if_neg (Nat.lt_irrefl p), if_neg (show ¬ (⟨p, hp⟩ : Dev nD).val < c.val from h)]
  rw [e1]
  ihave Hp := (Entails.of_eq e0) $$ Hp
  icases Hp with ⟨Hat, ⟨%f, Hrow⟩⟩
  imod (close_cell xs K (iRecv c ⟨p, hp⟩) (recvCell c ⟨p, hp⟩) rfl 0 (duties_of_zero xs (by
    show (Rd xs).duties (recvCell c ⟨p, hp⟩) 0 = ∅
    rw [duties_recv, if_neg (show ¬ (⟨p, hp⟩ : Dev nD).val < c.val from h)]))) $$ HC Hat with Hz
  ihave HS := Hput $$ [Hrow Hz]
  · isplitl [Hz]; · iexact Hz
    iexists f
    isplitr; · ipureintro; exact fun h' => absurd h' h
    iexact Hrow
  iapply Hk $$ HS

theorem step_recv (p : ℕ) (hp : p < 16) {cond : BitVec 1} (hc : cond = 1#1 ↔ p < c.val)
    {hsrc : totM.view.WordExact} {hdst : (rowM ⟨p, hp⟩).view.WordExact}
    {α : Type} {k : Prog (TpuEff nD τ sig (Elt F) Λ₀ .tc) α} {Q : α → sProp 𝕄} :
    Ctx xs K ⊢ iprop(Rc xs c p -∗ OwZ c -∗ (Rc xs c (p + 1) -∗ OwZ c -∗ Wp c k Q)
      -∗ Wp c (dite (cond = 1#1)
        (fun h => Prog.lift (.waitDma2 (recvS ⟨p, hp⟩) totM (rowM ⟨p, hp⟩) hsrc hdst) >>= fun _ => k) (fun _ => k)) Q) := by
  by_cases h : p < c.val
  · rw [dif_pos (hc.mpr h)]
    unfold Rc OwZ
    iintro #HC HS ⟨%W, HO⟩ Hk
    ihave HS2 := (bigSep_take_put _ _ (⟨p, hp⟩ : Dev nD) (rcRes_other xs c hp)) $$ HS
    icases HS2 with ⟨Hp, Hput⟩
    have e1 : rcRes xs c (p + 1) ⟨p, hp⟩ = iprop(semVal (recvCell c ⟨p, hp⟩) 0 ∗ ∃ f, ⌜p < c.val → f = totals xs⌝ ∗ rowPts c ⟨p, hp⟩ f) :=
      if_pos (Nat.lt_succ_self p)
    have e0 : rcRes xs c p ⟨p, hp⟩ = iprop(atPos ER (recvCell c ⟨p, hp⟩) 0 ∅ 0 ∗ cred (tallyAt (recvCell c ⟨p, hp⟩) () N)) := by
      unfold rcRes; rw [if_neg (Nat.lt_irrefl p), if_pos h]
    rw [e1]
    ihave Hp := (Entails.of_eq e0) $$ Hp
    icases Hp with ⟨Hat, Hcr⟩
    simp only [Prog.lift, Prog.bind_op, Prog.bind_ret]
    iapply (Rounds.wp_wait_rest_token 𝒱₀ ER (Rd xs) (c : Thread nD τ) none (κ := K (iRecv c ⟨p, hp⟩))
        (wpE_waitDma2_eq 𝒱₀ (c : Thread nD τ) none Set.univ) (Set.mem_univ _) () (O := 0) (W := W) (R := 0) (m := 0) (T := ∅)
        (by rw [Nat.zero_add, expect_recv xs c (k := ⟨p, hp⟩) h])) $$ [Hcr HO Hat]
    · isplitr; · iapply (ctx_inv xs K (iRecv c ⟨p, hp⟩)); iexact HC
      isplitl [Hcr]; · iexact Hcr
      isplitl [HO]; · iexact HO
      isplitr; · rw [MayWait_zero]; iempintro
      iexact Hat
    iintro ⟨HO, Hat, -, Hpay⟩
    ihave Hrow := (Entails.of_eq (rest_recv xs c (k := ⟨p, hp⟩) h)) $$ Hpay
    unfold recvPay
    imod (close_cell xs K (iRecv c ⟨p, hp⟩) (recvCell c ⟨p, hp⟩) rfl (0 + 1) (duties_later xs _)) $$ HC Hat with Hz
    ihave HS := Hput $$ [Hrow Hz]
    · isplitl [Hz]; · iexact Hz
      iexists (totals xs)
      isplitr; · ipureintro; exact fun _ => rfl
      iexact Hrow
    iapply Hk $$ HS [HO]
    iexists _; iexact HO
  · rw [dif_neg (fun hh => h (hc.mp hh))]
    iintro #HC HS HO Hk
    iapply fupd_wp
    iapply (rc_skip xs K c p hp h) $$ HC HS
    iintro HS
    imodintro
    iapply Hk $$ HS HO

end Cert.Scan

end
-- ==== Proof.Table.lean ====
/-
# `Table` — the buffers whole and in parts, and the table of totals read

The argument, the staging buffer, the result's buffer and the array are each the union of sixteen chunks, and
the table of totals of sixteen rows: what is held of one whole is what is held of its parts. So the families of
`Local` and `Remote` are made from whole buffers, and give whole buffers back.

When every receive is over, the table's rows below the device's own index hold the totals of the devices before
it; the rows from there on hold anything, and `offT` does not read them.
-/
module

public import proofs.«01_k».proof.Proof.Remote
public import Idealize.ShloMosaic.Lib.Pipeline.Value

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family member by member. -/
theorem mono_each {Φ Ψ : Fin 16 → sProp 𝕄} (h : ∀ k, Φ k ⊢ Ψ k) : bigSep Finset.univ Φ ⊢ bigSep Finset.univ Ψ := bigSep_mono fun k _ => h k

/-! ## Chunks and rows -/

theorem chunks_union : (Finset.univ : Finset (Fin 16)).biUnion (fun k => (rChk k).set) = Finset.univ := by
  ext i
  simp only [Finset.mem_biUnion, Finset.mem_univ, true_and, iff_true]
  have h : (i 0).val < 4096 := (i 0).isLt
  exact ⟨⟨(i 0).val / 256, by omega⟩, (mem_rChk _ _).mpr (by show 256 * ((i 0).val / 256) ≤ _ ∧ _ < 256 * ((i 0).val / 256) + 256; omega)⟩
theorem chunks_disj : ∀ k ∈ (Finset.univ : Finset (Fin 16)), ∀ k' ∈ (Finset.univ : Finset (Fin 16)), k ≠ k' → Disjoint (rChk k).set (rChk k').set := by
  intro k _ k' _ hne
  refine Finset.disjoint_left.mpr fun i h h' => hne (Fin.ext ?_)
  rw [mem_rChk] at h h'
  omega
theorem rows_union : (Finset.univ : Finset (Fin 16)).biUnion (fun p => (rRow p).set) = Finset.univ := by
  ext i
  simp only [Finset.mem_biUnion, Finset.mem_univ, true_and, iff_true]
  exact ⟨⟨(i 0).val, (i 0).isLt⟩, (mem_rRow _ _).mpr rfl⟩
theorem rows_disj : ∀ p ∈ (Finset.univ : Finset (Fin 16)), ∀ p' ∈ (Finset.univ : Finset (Fin 16)), p ≠ p' → Disjoint (rRow p).set (rRow p').set := by
  intro k _ k' _ hne
  refine Finset.disjoint_left.mpr fun i h h' => hne (Fin.ext ?_)
  rw [mem_rRow] at h h'
  omega
theorem row_set (p : Fin 16) : (rowM p).view.set = (rRow p).set := by rw [View.set_reshape, View.set_slice_whole]

section
variable (c : Dev nD)

omit [FloatOps F] in
theorem xPts_all (f : XBuf F) : bigSep Finset.univ (fun k => xPts c k f) = (xM.view.loc (c : Thread nD τ) ↦{fullShare} f : sProp 𝕄) := by
  have h := pointsTo_biUnion (Ix := Unit) (Val := Elt F) (Name := ℕ) (U := UU) (Lvl := ℕ) (ℓ := xM.view.loc (c : Thread nD τ))
    (q := fullShare) (f := f) Finset.univ (fun k : Fin 16 => (rChk k).set) chunks_disj
  rw [chunks_union] at h
  unfold xPts
  simp only [View.set_slice_whole]
  exact h.symm
omit [FloatOps F] in
theorem yPts_all (f : YBuf F) : bigSep Finset.univ (fun k => yPts c k f) = (yM.view.loc (c : Thread nD τ) ↦{fullShare} f : sProp 𝕄) := by
  have h := pointsTo_biUnion (Ix := Unit) (Val := Elt F) (Name := ℕ) (U := UU) (Lvl := ℕ) (ℓ := yM.view.loc (c : Thread nD τ))
    (q := fullShare) (f := f) Finset.univ (fun k : Fin 16 => (rChk k).set) chunks_disj
  rw [chunks_union] at h
  unfold yPts
  simp only [View.set_slice_whole]
  exact h.symm
omit [FloatOps F] in
theorem stPts_all (f : XBuf F) : bigSep Finset.univ (fun k => stPts c k f) = (stM.view.loc (c : Thread nD τ) ↦{fullShare} f : sProp 𝕄) := by
  have h := pointsTo_biUnion (Ix := Unit) (Val := Elt F) (Name := ℕ) (U := UU) (Lvl := ℕ) (ℓ := stM.view.loc (c : Thread nD τ))
    (q := fullShare) (f := f) Finset.univ (fun k : Fin 16 => (rChk k).set) chunks_disj
  rw [chunks_union] at h
  unfold stPts
  simp only [View.set_slice_whole]
  exact h.symm
omit [FloatOps F] in
theorem ovPts_all (f : YBuf F) : bigSep Finset.univ (fun k => ovPts c k f) = (ovM.view.loc (c : Thread nD τ) ↦{fullShare} f : sProp 𝕄) := by
  have h := pointsTo_biUnion (Ix := Unit) (Val := Elt F) (Name := ℕ) (U := UU) (Lvl := ℕ) (ℓ := ovM.view.loc (c : Thread nD τ))
    (q := fullShare) (f := f) Finset.univ (fun k : Fin 16 => (rChk k).set) chunks_disj
  rw [chunks_union] at h
  unfold ovPts
  simp only [View.set_slice_whole]
  exact h.symm
omit [FloatOps F] in
theorem row_pts (p : Fin 16) (f : Buf (Elt F) (cmM.view.loc (c : Thread nD τ))) :
    rowPts c p f = (cmM.view.loc (c : Thread nD τ) ↦[(rRow p).set]{fullShare} f : sProp 𝕄) :=
  congrArg (fun S => (cmM.view.loc (c : Thread nD τ) ↦[S]{fullShare} f : sProp 𝕄)) (row_set p)
omit [FloatOps F] in
theorem rows_all (f : Buf (Elt F) (cmM.view.loc (c : Thread nD τ))) :
    bigSep Finset.univ (fun p => rowPts c p f) = (cmM.view.loc (c : Thread nD τ) ↦{fullShare} f : sProp 𝕄) := by
  have h := pointsTo_biUnion (Ix := Unit) (Val := Elt F) (Name := ℕ) (U := UU) (Lvl := ℕ) (ℓ := cmM.view.loc (c : Thread nD τ))
    (q := fullShare) (f := f) Finset.univ (fun p : Fin 16 => (rRow p).set) rows_disj
  rw [rows_union] at h
  exact (bigSep_congr fun p _ => row_pts c p f).trans h.symm
/-- Rows at contents of their own are the table at contents that agree with each. -/
theorem rows_join (fs : Dev nD → Buf (Elt F) (cmM.view.loc (c : Thread nD τ))) (f₀ : Buf (Elt F) (cmM.view.loc (c : Thread nD τ))) :
    bigSep Finset.univ (fun p => rowPts c p (fs p))
      ⊢ (iprop(∃ g, ⌜∀ i : S16x1024.Idx, g i = fs ⟨(i 0).val, (i 0).isLt⟩ i⌝ ∗ (cmM.view.loc (c : Thread nD τ) ↦{fullShare} g)) : sProp 𝕄) := by
  have h := pointsTo_biUnion_join (Ix := Unit) (Val := Elt F) (Name := ℕ) (U := UU) (Lvl := ℕ) (ℓ := cmM.view.loc (c : Thread nD τ))
    (q := fullShare) Finset.univ (fun p : Fin 16 => (rRow p).set) fs f₀ rows_disj
  rw [rows_union] at h
  refine (Entails.of_eq (bigSep_congr fun p _ => row_pts c p (fs p))).trans (h.trans ?_)
  iintro ⟨%g, %hg, H⟩
  iexists g
  isplitr
  · ipureintro
    exact fun i => hg ⟨(i 0).val, (i 0).isLt⟩ (Finset.mem_univ _) i ((mem_rRow _ _).mpr rfl)
  iexact H
end

/-! ## The argument and staging -/

section
variable (x : XBuf F) (c : Dev nD)

/-- Before the first copy. -/
theorem in_begin (f : XBuf F) :
    iprop((stM.view.loc (c : Thread nD τ) ↦{fullShare} f) ∗ (xM.view.loc (c : Thread nD τ) ↦{fullShare} x)
      ∗ bigSep Finset.univ fun k => semVal ((c : Thread nD τ), .dma (inS k)) 0) ⊢ (Inn x c 0 0 : sProp 𝕄) := by
  rw [← stPts_all, ← xPts_all, ← bigSep_sep', ← bigSep_sep']
  unfold Inn
  refine mono_each fun k => ?_
  rw [inRes_idle x c (Nat.not_lt_zero _) (Nat.not_lt_zero _)]
  iintro ⟨H1, H2⟩
  isplitl [H1]; · iexists f; iexact H1
  iexact H2
/-- After the last wait. -/
theorem in_end : (Inn x c 16 16 : sProp 𝕄) ⊢ iprop((stM.view.loc (c : Thread nD τ) ↦{fullShare} x) ∗ (xM.view.loc (c : Thread nD τ) ↦{fullShare} x)
      ∗ bigSep Finset.univ fun k => semVal ((c : Thread nD τ), .dma (inS k)) 0) := by
  rw [← stPts_all, ← xPts_all, ← bigSep_sep', ← bigSep_sep']
  unfold Inn
  refine mono_each fun k => ?_
  rw [inRes_done x c k.isLt]
end

/-! ## The result's buffer and the array -/

section
variable (xs : Dev nD → XBuf F) (c : Dev nD)

/-- The array's block before anything is copied to it, and its semaphores. -/
def Yy : sProp 𝕄 := iprop((∃ f, (yM.view.loc (c : Thread nD τ) ↦{fullShare} f)) ∗ bigSep Finset.univ fun k => semVal ((c : Thread nD τ), .dma (outS k)) 0)

theorem ov_begin (x : XBuf F) (f : YBuf F) : (ovM.view.loc (c : Thread nD τ) ↦{fullShare} f) ⊢ (Ov x c 0 : sProp 𝕄) := by
  unfold Ov
  iintro H
  iexists f
  isplitr; · ipureintro; exact fun i h => absurd h (Nat.not_lt_zero _)
  iexact H

/-- The first pass done, the second begins. -/
theorem out_begin : iprop(Ov (xs c) c 32 ∗ Yy c) ⊢ (Out xs c 0 0 0 : sProp 𝕄) := by
  unfold Ov Yy
  iintro ⟨⟨%f, %hf, Ho⟩, ⟨%g, Hy⟩, Hv⟩
  have e : f = out1 (xs c) := funext fun i => hf i (by have h : (i 0).val < 4096 := (i 0).isLt; omega)
  subst e
  have key : iprop((yM.view.loc (c : Thread nD τ) ↦{fullShare} g) ∗ (ovM.view.loc (c : Thread nD τ) ↦{fullShare} (out1 (xs c)))
      ∗ bigSep Finset.univ fun k => semVal ((c : Thread nD τ), .dma (outS k)) 0) ⊢ (Out xs c 0 0 0 : sProp 𝕄) := by
    rw [← yPts_all, ← ovPts_all, ← bigSep_sep', ← bigSep_sep']
    unfold Out
    refine mono_each fun k => ?_
    rw [outRes_idle xs c (Nat.not_lt_zero _) (Nat.not_lt_zero _) (Nat.not_lt_zero _)]
    iintro ⟨H1, H2⟩
    isplitl [H1]; · iexists g; iexact H1
    iexact H2
  iapply key
  isplitl [Hy]; · iexact Hy
  isplitl [Ho] <;> iassumption
theorem out_end : (Out xs c 16 16 16 : sProp 𝕄) ⊢ iprop((yM.view.loc (c : Thread nD τ) ↦{fullShare} (out2 xs c))
      ∗ (ovM.view.loc (c : Thread nD τ) ↦{fullShare} (out2 xs c)) ∗ bigSep Finset.univ fun k => semVal ((c : Thread nD τ), .dma (outS k)) 0) := by
  rw [← yPts_all, ← ovPts_all, ← bigSep_sep', ← bigSep_sep']
  unfold Out
  refine mono_each fun k => ?_
  rw [outRes_done xs c k.isLt]

/-! ## The copies of the total -/

/-- What the barrier handed over goes with the copies. -/
theorem snd_begin : iprop(bigSep Finset.univ (sndPre c) ∗ bigSep (Finset.univ.erase c) (barPay c)
      ∗ bigSep Finset.univ (fun j => totPts c j (total (xs c)))) ⊢ (Snd xs c 1 0 : sProp 𝕄) := by
  have h : (bigSep (Finset.univ.erase c) (barPay c) : sProp 𝕄) ⊢ bigSep Finset.univ (barPay (F := F) c) := by
    rw [bigSep_univ_at (barPay (F := F) c) c]
    iintro H
    isplitr
    · unfold barPay; rw [if_neg (lt_irrefl c)]; iempintro
    iexact H
  refine (sep_mono_right (sep_mono_left h)).trans ?_
  rw [← bigSep_sep', ← bigSep_sep']
  unfold Snd
  refine mono_each fun j => ?_
  unfold sndPre sndRes barPay
  rw [if_neg (Nat.not_lt_zero _)]
  by_cases hj : c.val < j.val
  · rw [if_pos hj, if_pos hj, if_pos (show c < j from hj), if_neg (by omega)]
    iintro ⟨⟨H1, H2⟩, H3, H4⟩
    isplitl [H1]; · iexact H1
    isplitl [H2]; · iexact H2
    isplitl [H4] <;> iassumption
  · rw [if_neg hj, if_neg hj, if_neg (show ¬ c < j from hj)]
    iintro ⟨⟨H1, -⟩, -, H4⟩
    isplitl [H1] <;> iassumption

/-- Every share is back: the total's buffer is whole. -/
theorem snd_end : iprop(totRest xs c ∗ Snd xs c 16 16) ⊢ (iprop((ttM.view.loc (c : Thread nD τ) ↦{fullShare} (total (xs c)))
      ∗ bigSep Finset.univ fun j => semVal (sendCell c j) 0) : sProp 𝕄) := by
  have h : (Snd xs c 16 16 : sProp 𝕄) = iprop(bigSep Finset.univ (fun j => totPts c j (total (xs c))) ∗ bigSep Finset.univ fun j => semVal (sendCell c j) 0) := by
    rw [← bigSep_sep']
    exact bigSep_congr fun j _ => if_pos j.isLt
  rw [h]
  unfold totRest totPts
  rw [tot_set]
  iintro ⟨Hd, Ht, Hv⟩
  isplitr [Hv]
  · iapply (Transfers.pointsTo_toks_join fullShare 16)
    isplitl [Hd] <;> iassumption
  iexact Hv

/-! ## The table read -/

/-- The table, its rows below the device's own index the totals of the devices before it. -/
def Tb : sProp 𝕄 :=
  iprop(∃ f : S16x1024.Idx → Elt F .f32, ⌜∀ i : S16x1024.Idx, (i 0).val < c.val → f i = totals xs i⌝ ∗ (cmM.view.loc (c : Thread nD τ) ↦{fullShare} f))

theorem rc_end : (Rc xs c 16 : sProp 𝕄) ⊢ iprop((bigSep Finset.univ fun k => semVal (recvCell c k) 0) ∗ Tb xs c) := by
  have h : (Rc xs c 16 : sProp 𝕄) = iprop((bigSep Finset.univ fun k => semVal (recvCell c k) 0)
      ∗ bigSep Finset.univ fun k : Dev nD => iprop(∃ f, ⌜k.val < c.val → f = totals xs⌝ ∗ rowPts c k f)) := by
    rw [← bigSep_sep']
    exact bigSep_congr fun j _ => if_pos j.isLt
  rw [h]
  refine sep_mono_right ?_
  haveI : Nonempty (Buf (Elt F) (cmM.view.loc (c : Thread nD τ))) := ⟨totals xs⟩
  refine (bigSep_exists_pi Finset.univ (fun (k : Dev nD) (f : Buf (Elt F) (cmM.view.loc (c : Thread nD τ))) => iprop(⌜k.val < c.val → f = totals xs⌝ ∗ rowPts c k f))).trans ?_
  iintro ⟨%fs, H⟩
  ihave H := (bigSep_pure_sep Finset.univ (fun k : Dev nD => k.val < c.val → fs k = totals xs) (fun k => rowPts c k (fs k))) $$ H
  icases H with ⟨%hf, H⟩
  ihave H := (rows_join c fs (totals xs)) $$ H
  icases H with ⟨%g, %hg, H⟩
  unfold Tb
  iexists g
  isplitr
  · ipureintro
    intro i hi
    exact (hg i).trans (congrFun (hf ⟨(i 0).val, (i 0).isLt⟩ (Finset.mem_univ _) hi) i)
  iexact H

/-- The word a program computes for its device's index orders the rows as the index does. -/
theorem slt_me : ∀ (c : Dev nD) (r : Fin 16), Scalar.cmpi .slt (BitVec.ofNat 32 r.val) (me c) = 1#1 ↔ r.val < c.val := by decide

theorem offT_congr (T T' : S16x1024.Idx → Elt F .f32) (h : ∀ i : S16x1024.Idx, (i 0).val < c.val → T i = T' i) : offT c T = offT c T' := by
  unfold offT k0_pay118
  have e : select (cmpi .slt (iota .tc S16x1024 32 [0] iota_S16x1024_d0_w32) (broadcast S16x1024 (me c))) T (broadcast S16x1024 (Scalar.ofBits (F := F) .f32 0x00000000#32))
      = select (cmpi .slt (iota .tc S16x1024 32 [0] iota_S16x1024_d0_w32) (broadcast S16x1024 (me c))) T' (broadcast S16x1024 (Scalar.ofBits (F := F) .f32 0x00000000#32)) := by
    funext i
    have hm : cmpi .slt (iota .tc S16x1024 32 [0] iota_S16x1024_d0_w32) (broadcast S16x1024 (me c)) i
        = Scalar.cmpi .slt (BitVec.ofNat 32 (⟨(i 0).val, (i 0).isLt⟩ : Fin 16).val) (me c) :=
      congrArg (fun v => Scalar.cmpi .slt v (me c)) (iota_single_apply .tc S16x1024 32 0 iota_S16x1024_d0_w32 i)
    show Scalar.select _ _ _ = Scalar.select _ _ _
    rw [hm]
    by_cases hi : (i 0).val < c.val
    · rw [h i hi]
    · unfold Scalar.select
      have hn : ¬ Scalar.cmpi .slt (BitVec.ofNat 32 (⟨(i 0).val, (i 0).isLt⟩ : Fin 16).val) (me c) = 1 := fun h' => hi ((slt_me c _).mp h')
      exact (if_neg hn).trans (if_neg hn).symm
  exact congrArg (fun v => truncf .bf16 (shapeCast S1x1024 (multiReduction .add [0] S1024 v 0x00000000#32 reduces_S16x1024_S1024 (.inl rfl) rfl) shapeCasts_S1024_S1x1024) bitsLt_bf16_f32) e

theorem step_load_table {hl : cmM.view.LoadsAt (Rect.unit (s := S16x1024) ![0, 0] S16x1024.size inb_S16x1024_S16x1024_0_0).toLoadRect}
    {α : Type} {k : Vec F S16x1024 .f32 → Prog (TpuEff nD τ sig (Elt F) Λ₀ .tc) α} {Q : α → sProp 𝕄} :
    Tb xs c ⊢ iprop((∀ T, ⌜offT c T = off16 xs c⌝ -∗ Tb xs c -∗ Wp c (k T) Q)
      -∗ Wp c (Prog.lift (.load cmM (Rect.unit (s := S16x1024) ![0, 0] S16x1024.size inb_S16x1024_S16x1024_0_0).toLoadRect hl) >>= k) Q) := by
  unfold Tb
  iintro ⟨%f, %hf, Ho⟩ Hk
  simp only [Prog.lift, Prog.bind_op, Prog.bind_ret]
  iapply (wp_load 𝒱₀ (c : Thread nD τ) none Set.univ (m := cmM) (Finset.subset_univ _)) $$ Ho
  iintro Ho
  iapply Hk $$ [] [Ho]
  · ipureintro; exact offT_congr c _ _ fun i hi => (congrFun (Memref.readAt_unit_zero (Elt F) cc0_scratch3 hz2 _ f) i).trans (hf i hi)
  iexists f
  isplitr; · ipureintro; exact hf
  iexact Ho
end

end Cert.Scan

end
-- ==== Proof.Part.lean ====
/-
# `Part` — the kernel's body, part by part

The body is one straight line, printed in parts. Each theorem here runs one part (or a stretch of parts) on a
device `c`, from what the operations of `Local`, `Remote` and `Table` need to what they leave.
-/
module

public import proofs.«01_k».proof.Proof.Table

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body, on the kernel's buffers and semaphores. -/
abbrev onDev {β : Type 1} (f : ∀ (arg0 : Memref sig .tc .hbm S4096x1024 .f32) (harg0 : arg0.IsWhole)
    (arg1 : Memref sig .tc .hbm S4096x1024 .bf16) (harg1 : arg1.IsWhole) (arg2 : Memref sig .tc .vmem S4096x1024 .f32) (harg2 : arg2.IsWhole)
    (arg3 : Memref sig .tc .vmem S4096x1024 .bf16) (harg3 : arg3.IsWhole) (arg4 : Memref sig .tc .vmem S1x1024 .f32) (harg4 : arg4.IsWhole)
    (arg5 : Memref sig .tc .vmem S16x1024 .f32) (harg5 : arg5.IsWhole) (arg6 arg7 arg8 arg9 : DmaSems sig S16), β) : β :=
  f xM (Memref.isWhole_whole _) yM (Memref.isWhole_whole _) stM (Memref.isWhole_whole _) ovM (Memref.isWhole_whole _)
    ttM (Memref.isWhole_whole _) cmM (Memref.isWhole_whole _) cc0_scratch4 cc0_scratch5 cc0_scratch6 cc0_scratch7

variable (xs : Dev nD → XBuf F) (K : Dev nD × CI → ℕ) (c : Dev nD)

theorem step_deviceId {α : Type} {k : Dev nD → Prog (TpuEff nD τ sig (Elt F) Λ₀ .tc) α} {Q : α → sProp 𝕄} :
    Wp c (k c) Q ⊢ Wp c (Prog.lift .deviceId >>= k) Q := by
  simp only [Prog.lift, Prog.bind_op, Prog.bind_ret, wp_deviceId]
  exact Entails.refl _

/-- A part that has come to its end returns what is expected of it. -/
theorem run_ret {α : Type} {a b : α} (h : a = b) {Q : α → sProp 𝕄} : Q b ⊢ Wp c (pure a) Q := by
  subst h
  show _ ⊢ wp _ _ _ (Prog.ret a) Q
  rw [wp_ret]
  iintro H
  imodintro
  iexact H

/-- A block of the first pass where its three operations stand together: read it, look at where its result goes,
put the result there. -/
theorem step_block (g : ℕ) (hg : g < 32) {w : ℕ} (hw : g / 2 < w) {pay : Vec F S128x1024 .f32 → Vec F S128x1024 .bf16}
    (hp : pay (blk (xs c) ⟨g, hg⟩) = o16 (xs c) ⟨g, hg⟩)
    {hl : stM.view.LoadsAt (rBlk ⟨g, hg⟩).toLoadRect} {hl2 : ovM.view.LoadsAt (rBlk ⟨g, hg⟩).toLoadRect}
    {hx : (ovM.access (rBlk ⟨g, hg⟩)).Stores Finset.univ} {hm}
    {α : Type} {k : Vec F S128x1024 .f32 → Prog (TpuEff nD τ sig (Elt F) Λ₀ .tc) α} {Q : α → sProp 𝕄} :
    Inn (xs c) c 16 w ⊢ iprop(Ov (xs c) c g -∗ (Inn (xs c) c 16 w -∗ Ov (xs c) c (g + 1) -∗ Wp c (k (blk (xs c) ⟨g, hg⟩)) Q)
      -∗ Wp c (Prog.lift (.load stM (rBlk ⟨g, hg⟩).toLoadRect hl) >>= fun v =>
          Prog.lift (.load ovM (rBlk ⟨g, hg⟩).toLoadRect hl2) >>= fun _ =>
          Prog.lift (.store ovM (rBlk ⟨g, hg⟩) (pay v) Finset.univ hx hm) >>= fun _ => k v) Q) := by
  iintro HI HV Hk
  iapply (step_load_blk (xs c) c g hg hw) $$ HI
  iintro HI
  iapply (step_dead_blk (xs c) c g hg) $$ HV
  iintro %_ HV
  iapply (step_store_blk (xs c) c g hg hp) $$ HV
  iintro HV
  iapply Hk $$ HI HV

/-- The next chunk of the input: wait until it is in, and read it. -/
theorem step_chunk (n : ℕ) (hn : n < 16) {a s : ℕ} {hsrc : (xV ⟨n, hn⟩).view.WordExact} {hdst : (stV ⟨n, hn⟩).view.WordExact}
    {hl : stM.view.LoadsAt (rChk ⟨n, hn⟩).toLoadRect}
    {α : Type} {k : Vec F S256x1024 .f32 → Prog (TpuEff nD τ sig (Elt F) Λ₀ .tc) α} {Q : α → sProp 𝕄} :
    (levAts L lv : sProp 𝕄) ⊢ iprop(Inn (xs c) c 16 n -∗ OwS c a s
      -∗ (Inn (xs c) c 16 (n + 1) -∗ OwS c a s -∗ Wp c (k (chk (xs c) ⟨n, hn⟩)) Q)
      -∗ Wp c (Prog.lift (.waitDma2 (inS ⟨n, hn⟩) (xV ⟨n, hn⟩) (stV ⟨n, hn⟩) hsrc hdst) >>= fun _ =>
          Prog.lift (.load stM (rChk ⟨n, hn⟩).toLoadRect hl) >>= k) Q) := by
  iintro #HL HI HO Hk
  iapply (step_in_wait (xs c) c n hn a s) $$ HL HI HO
  iintro HI HO
  iapply (step_load_chk (xs c) c n hn (Nat.lt_succ_self n)) $$ HI
  iintro HI
  iapply Hk $$ HI HO

/-- A chunk of the second pass where its four operations stand together: read it, look at where its result goes, put
the result there, start it on its way out. -/
theorem step_raise (n : ℕ) (hn : n < 16) {pay : Vec F S256x1024 .bf16 → Vec F S256x1024 .bf16}
    (hp : pay (chk1 (xs c) ⟨n, hn⟩) = o256 xs c ⟨n, hn⟩)
    {hl hl2 : ovM.view.LoadsAt (rChk ⟨n, hn⟩).toLoadRect} {hx : (ovM.access (rChk ⟨n, hn⟩)).Stores Finset.univ} {hm}
    {hsrc : (ovV ⟨n, hn⟩).view.WordExact} {hdst : (yV ⟨n, hn⟩).view.WordExact}
    {hsem : DmaTarget.Typed (nD := nD) .vmem (.dma (outS ⟨n, hn⟩)) (.here (yV ⟨n, hn⟩) : DmaTarget nD τ sig .tc .hbm S256x1024 .bf16)}
    {α : Type} {k : PUnit → Prog (TpuEff nD τ sig (Elt F) Λ₀ .tc) α} {Q : α → sProp 𝕄} :
    Out xs c n n 0 ⊢ iprop((Out xs c (n + 1) (n + 1) 0 -∗ Wp c (k ⟨⟩) Q)
      -∗ Wp c (Prog.lift (.load ovM (rChk ⟨n, hn⟩).toLoadRect hl) >>= fun v =>
          Prog.lift (.load ovM (rChk ⟨n, hn⟩).toLoadRect hl2) >>= fun _ =>
          Prog.lift (.store ovM (rChk ⟨n, hn⟩) (pay v) Finset.univ hx hm) >>= fun _ =>
          Prog.lift (.enqueueDma (ovV ⟨n, hn⟩) (.here (yV ⟨n, hn⟩)) (.dma (outS ⟨n, hn⟩)) hsrc hdst hsem) >>= k) Q) := by
  iintro HY Hk
  iapply (step_load_out xs c n hn) $$ HY
  iintro HY
  iapply (step_load_out xs c n hn) $$ HY
  iintro HY
  iapply (step_store_out xs c n hn hp) $$ HY
  iintro HY
  iapply (step_out_start xs c n hn) $$ HY
  iintro HY
  iapply Hk $$ HY

/-- The end of a block whose row sums a part before had begun: its store alone. -/
theorem step_put {g : ℕ} (hg : g < 32) {w : Vec F S128x1024 .bf16} (hw : w = o16 (xs c) ⟨g, hg⟩)
    {hl2 : ovM.view.LoadsAt (rBlk ⟨g, hg⟩).toLoadRect} {hx : (ovM.access (rBlk ⟨g, hg⟩)).Stores Finset.univ} {hm}
    {α : Type} {k : PUnit → Prog (TpuEff nD τ sig (Elt F) Λ₀ .tc) α} {Q : α → sProp 𝕄} :
    Ov (xs c) c g ⊢ iprop((Ov (xs c) c (g + 1) -∗ Wp c (k ⟨⟩) Q)
      -∗ Wp c (Prog.lift (.load ovM (rBlk ⟨g, hg⟩).toLoadRect hl2) >>= fun _ =>
          Prog.lift (.store ovM (rBlk ⟨g, hg⟩) w Finset.univ hx hm) >>= k) Q) := by
  iintro HV Hk
  iapply (step_dead_blk (xs c) c g hg) $$ HV
  iintro %_ HV
  iapply (step_store_blk (xs c) c g hg hw) $$ HV
  iintro HV
  iapply Hk $$ HV

theorem part1 {s : ℕ} {Q : _ → sProp 𝕄} :
    Ctx xs K ⊢ iprop(Sg c 0 -∗ OwS c 0 s -∗ (Sg c 8 -∗ OwS c 8 s -∗ Q ⟨c, me c, barA⟩) -∗ Wp c (onDev k0_part1) Q) := by
  iintro #HC HS HO Hk
  rw [onDev, k0_part1_eq_skeleton]
  unfold k0_part1_skel
  iapply (step_deviceId c)
  iterate 8 (iapply (step_signal xs K c _ (by decide) (by revert c; decide) (fun _ => by rfl)) $$ HC HS HO; iintro HS HO)
  ihave H := Hk $$ HS HO
  iapply (run_ret c (by rfl)) $$ H

theorem part2 {s : ℕ} {Q : _ → sProp 𝕄} :
    Ctx xs K ⊢ iprop(Sg c 8 -∗ OwS c 8 s -∗ Inn (xs c) c 0 0 -∗ (Sg c 16 -∗ OwS c 16 s -∗ Inn (xs c) c 1 0 -∗ Q ⟨⟩) -∗ Wp c (onDev k0_part2 c (me c) barA) Q) := by
  iintro #HC HS HO HI Hk
  rw [onDev, k0_part2_eq_skeleton]
  unfold k0_part2_skel
  iterate 8 (iapply (step_signal xs K c _ (by decide) (by revert c; decide) (fun _ => by rfl)) $$ HC HS HO; iintro HS HO)
  iterate 1 (iapply (step_in_start (xs c) c _ (by decide)) $$ HI; iintro HI)
  ihave H := Hk $$ HS HO HI
  iapply (run_ret c (by rfl)) $$ H

theorem part3 {Q : _ → sProp 𝕄} :
    Inn (xs c) c 1 0 ⊢ iprop((Inn (xs c) c 7 0 -∗ Q ⟨⟩) -∗ Wp c (onDev k0_part3) Q) := by
  iintro HI Hk
  rw [onDev, k0_part3_eq_skeleton]
  unfold k0_part3_skel
  iterate 6 (iapply (step_in_start (xs c) c _ (by decide)) $$ HI; iintro HI)
  ihave H := Hk $$ HI
  iapply (run_ret c (by rfl)) $$ H

theorem part4 {Q : _ → sProp 𝕄} :
    Inn (xs c) c 7 0 ⊢ iprop((Inn (xs c) c 13 0 -∗ Q ⟨⟩) -∗ Wp c (onDev k0_part4) Q) := by
  iintro HI Hk
  rw [onDev, k0_part4_eq_skeleton]
  unfold k0_part4_skel
  iterate 6 (iapply (step_in_start (xs c) c _ (by decide)) $$ HI; iintro HI)
  ihave H := Hk $$ HI
  iapply (run_ret c (by rfl)) $$ H

theorem part5 {Q : _ → sProp 𝕄} :
    (levAts L lv : sProp 𝕄) ⊢ iprop(OwS c 16 1 -∗ Inn (xs c) c 13 0
      -∗ (OwS c 16 1 -∗ Inn (xs c) c 16 1 -∗ Q ⟨k0_pay1, off (xs c) 0, totC (xs c) 1, k0_pay4 (blk (xs c) 0), k0_pay5 (blk (xs c) 0)⟩)
      -∗ Wp c (onDev k0_part5) Q) := by
  iintro #HL HO HI Hk
  rw [onDev, k0_part5_eq_skeleton]
  unfold k0_part5_skel
  iterate 3 (iapply (step_in_start (xs c) c _ (by decide)) $$ HI; iintro HI)
  iapply (step_chunk xs c _ (by decide)) $$ HL HI HO
  iintro HI HO
  iapply (step_load_blk (xs c) c 0 (by decide) (by decide)) $$ HI
  iintro HI
  ihave H := Hk $$ HO HI
  iapply (run_ret c (by rfl)) $$ H

theorem part6 {Q : _ → sProp 𝕄} :
    (levAts L lv : sProp 𝕄) ⊢ iprop(OwS c 16 1 -∗ Inn (xs c) c 16 1 -∗ Ov (xs c) c 0
      -∗ (OwS c 16 1 -∗ Inn (xs c) c 16 2 -∗ Ov (xs c) c 3 -∗ Q ⟨totC (xs c) 2, off (xs c) 3⟩)
      -∗ Wp c (onDev k0_part6 k0_pay1 (off (xs c) 0) (totC (xs c) 1) (k0_pay4 (blk (xs c) 0)) (k0_pay5 (blk (xs c) 0))) Q) := by
  iintro #HL HO HI HV Hk
  rw [onDev, k0_part6_eq_skeleton]
  unfold k0_part6_skel
  iapply (step_put xs c (by decide) (by rfl)) $$ HV
  iintro HV
  iapply (step_block xs c _ (by decide) (by decide) (by rfl)) $$ HI HV
  iintro HI HV
  iapply (step_chunk xs c _ (by decide)) $$ HL HI HO
  iintro HI HO
  iapply (step_block xs c _ (by decide) (by decide) (by rfl)) $$ HI HV
  iintro HI HV
  ihave H := Hk $$ HO HI HV
  iapply (run_ret c (by rfl)) $$ H

theorem part7 {Q : _ → sProp 𝕄} :
    (levAts L lv : sProp 𝕄) ⊢ iprop(OwS c 16 1 -∗ Inn (xs c) c 16 2 -∗ Ov (xs c) c 3
      -∗ (OwS c 16 1 -∗ Inn (xs c) c 16 3 -∗ Ov (xs c) c 5 -∗ Q ⟨totC (xs c) 3, off (xs c) 5, k0_pay22 k0_pay1 (blk (xs c) 5),
          k0_pay23 k0_pay1 (off (xs c) 3) (blk (xs c) 3) (blk (xs c) 4) (blk (xs c) 5)⟩)
      -∗ Wp c (onDev k0_part7 k0_pay1 (totC (xs c) 2) (off (xs c) 3)) Q) := by
  iintro #HL HO HI HV Hk
  rw [onDev, k0_part7_eq_skeleton]
  unfold k0_part7_skel
  iapply (step_block xs c _ (by decide) (by decide) (by rfl)) $$ HI HV
  iintro HI HV
  iapply (step_chunk xs c _ (by decide)) $$ HL HI HO
  iintro HI HO
  iapply (step_block xs c _ (by decide) (by decide) (by rfl)) $$ HI HV
  iintro HI HV
  iapply (step_load_blk (xs c) c 5 (by decide) (by decide)) $$ HI
  iintro HI
  ihave H := Hk $$ HO HI HV
  iapply (run_ret c (by rfl)) $$ H

theorem part8 {Q : _ → sProp 𝕄} :
    (levAts L lv : sProp 𝕄) ⊢ iprop(OwS c 16 1 -∗ Inn (xs c) c 16 3 -∗ Ov (xs c) c 5
      -∗ (OwS c 16 1 -∗ Inn (xs c) c 16 4 -∗ Ov (xs c) c 8 -∗ Q ⟨totC (xs c) 4, off (xs c) 8⟩)
      -∗ Wp c (onDev k0_part8 k0_pay1 (totC (xs c) 3) (off (xs c) 5) (k0_pay22 k0_pay1 (blk (xs c) 5))
          (k0_pay23 k0_pay1 (off (xs c) 3) (blk (xs c) 3) (blk (xs c) 4) (blk (xs c) 5))) Q) := by
  iintro #HL HO HI HV Hk
  rw [onDev, k0_part8_eq_skeleton]
  unfold k0_part8_skel
  iapply (step_put xs c (by decide) (by rfl)) $$ HV
  iintro HV
  iapply (step_chunk xs c _ (by decide)) $$ HL HI HO
  iintro HI HO
  iterate 2 (iapply (step_block xs c _ (by decide) (by decide) (by rfl)) $$ HI HV; iintro HI HV)
  ihave H := Hk $$ HO HI HV
  iapply (run_ret c (by rfl)) $$ H

theorem part9 {Q : _ → sProp 𝕄} :
    (levAts L lv : sProp 𝕄) ⊢ iprop(OwS c 16 1 -∗ Inn (xs c) c 16 4 -∗ Ov (xs c) c 8
      -∗ (OwS c 16 1 -∗ Inn (xs c) c 16 6 -∗ Ov (xs c) c 10 -∗ Q ⟨totC (xs c) 5, off (xs c) 10⟩)
      -∗ Wp c (onDev k0_part9 k0_pay1 (totC (xs c) 4) (off (xs c) 8)) Q) := by
  iintro #HL HO HI HV Hk
  rw [onDev, k0_part9_eq_skeleton]
  unfold k0_part9_skel
  iapply (step_chunk xs c _ (by decide)) $$ HL HI HO
  iintro HI HO
  iterate 2 (iapply (step_block xs c _ (by decide) (by decide) (by rfl)) $$ HI HV; iintro HI HV)
  iapply (step_in_wait (xs c) c _ (by decide) 16 1) $$ HL HI HO
  iintro HI HO
  ihave H := Hk $$ HO HI HV
  iapply (run_ret c (by rfl)) $$ H

theorem part10 {Q : _ → sProp 𝕄} :
    (levAts L lv : sProp 𝕄) ⊢ iprop(OwS c 16 1 -∗ Inn (xs c) c 16 6 -∗ Ov (xs c) c 10
      -∗ (OwS c 16 1 -∗ Inn (xs c) c 16 7 -∗ Ov (xs c) c 12 -∗ Q ⟨off (xs c) 12, totC (xs c) 7, k0_pay47 (blk (xs c) 12)⟩)
      -∗ Wp c (onDev k0_part10 k0_pay1 (totC (xs c) 5) (off (xs c) 10)) Q) := by
  iintro #HL HO HI HV Hk
  rw [onDev, k0_part10_eq_skeleton]
  unfold k0_part10_skel
  iapply (step_load_chk (xs c) c 5 (by decide) (by decide)) $$ HI
  iintro HI
  iterate 2 (iapply (step_block xs c _ (by decide) (by decide) (by rfl)) $$ HI HV; iintro HI HV)
  iapply (step_chunk xs c _ (by decide)) $$ HL HI HO
  iintro HI HO
  iapply (step_load_blk (xs c) c 12 (by decide) (by decide)) $$ HI
  iintro HI
  ihave H := Hk $$ HO HI HV
  iapply (run_ret c (by rfl)) $$ H

theorem part11 {Q : _ → sProp 𝕄} :
    (levAts L lv : sProp 𝕄) ⊢ iprop(OwS c 16 1 -∗ Inn (xs c) c 16 7 -∗ Ov (xs c) c 12
      -∗ (OwS c 16 1 -∗ Inn (xs c) c 16 8 -∗ Ov (xs c) c 14 -∗ Q ⟨off (xs c) 14, totC (xs c) 8, k0_pay55 k0_pay1 (blk (xs c) 14),
          k0_pay56 k0_pay1 (off (xs c) 12) (k0_pay47 (blk (xs c) 12)) (blk (xs c) 13) (blk (xs c) 14)⟩)
      -∗ Wp c (onDev k0_part11 k0_pay1 (off (xs c) 12) (totC (xs c) 7) (k0_pay47 (blk (xs c) 12))) Q) := by
  iintro #HL HO HI HV Hk
  rw [onDev, k0_part11_eq_skeleton]
  unfold k0_part11_skel
  iapply (step_put xs c (by decide) (by rfl)) $$ HV
  iintro HV
  iapply (step_block xs c _ (by decide) (by decide) (by rfl)) $$ HI HV
  iintro HI HV
  iapply (step_chunk xs c _ (by decide)) $$ HL HI HO
  iintro HI HO
  iapply (step_load_blk (xs c) c 14 (by decide) (by decide)) $$ HI
  iintro HI
  iapply (step_dead_blk (xs c) c 14 (by decide)) $$ HV
  iintro %_ HV
  ihave H := Hk $$ HO HI HV
  iapply (run_ret c (by rfl)) $$ H

theorem part12 {Q : _ → sProp 𝕄} :
    (levAts L lv : sProp 𝕄) ⊢ iprop(OwS c 16 1 -∗ Inn (xs c) c 16 8 -∗ Ov (xs c) c 14
      -∗ (OwS c 16 1 -∗ Inn (xs c) c 16 9 -∗ Ov (xs c) c 17
          -∗ Q ⟨totC (xs c) 9, off (xs c) 17, k0_pay66 (blk (xs c) 17), constant S128x1024 .f32 0x00000000#32⟩)
      -∗ Wp c (onDev k0_part12 k0_pay1 (off (xs c) 14) (totC (xs c) 8) (k0_pay55 k0_pay1 (blk (xs c) 14))
          (k0_pay56 k0_pay1 (off (xs c) 12) (k0_pay47 (blk (xs c) 12)) (blk (xs c) 13) (blk (xs c) 14))) Q) := by
  iintro #HL HO HI HV Hk
  rw [onDev, k0_part12_eq_skeleton]
  unfold k0_part12_skel
  iapply (step_store_blk (xs c) c 14 (by decide) (by rfl)) $$ HV
  iintro HV
  iapply (step_block xs c _ (by decide) (by decide) (by rfl)) $$ HI HV
  iintro HI HV
  iapply (step_chunk xs c _ (by decide)) $$ HL HI HO
  iintro HI HO
  iapply (step_block xs c _ (by decide) (by decide) (by rfl)) $$ HI HV
  iintro HI HV
  iapply (step_load_blk (xs c) c 17 (by decide) (by decide)) $$ HI
  iintro HI
  ihave H := Hk $$ HO HI HV
  iapply (run_ret c (by rfl)) $$ H

theorem part13 {Q : _ → sProp 𝕄} :
    (levAts L lv : sProp 𝕄) ⊢ iprop(OwS c 16 1 -∗ Inn (xs c) c 16 9 -∗ Ov (xs c) c 17
      -∗ (OwS c 16 1 -∗ Inn (xs c) c 16 10 -∗ Ov (xs c) c 19 -∗ Q ⟨totC (xs c) 10, off (xs c) 19, k0_pay74 k0_pay1 (blk (xs c) 19),
          k0_pay75 k0_pay1 (off (xs c) 17) (k0_pay66 (blk (xs c) 17)) (constant S128x1024 .f32 0x00000000#32) (blk (xs c) 18) (blk (xs c) 19)⟩)
      -∗ Wp c (onDev k0_part13 k0_pay1 (totC (xs c) 9) (off (xs c) 17) (k0_pay66 (blk (xs c) 17))
          (constant S128x1024 .f32 0x00000000#32)) Q) := by
  iintro #HL HO HI HV Hk
  rw [onDev, k0_part13_eq_skeleton]
  unfold k0_part13_skel
  iapply (step_put xs c (by decide) (by rfl)) $$ HV
  iintro HV
  iapply (step_chunk xs c _ (by decide)) $$ HL HI HO
  iintro HI HO
  iapply (step_block xs c _ (by decide) (by decide) (by rfl)) $$ HI HV
  iintro HI HV
  iapply (step_load_blk (xs c) c 19 (by decide) (by decide)) $$ HI
  iintro HI
  iapply (step_dead_blk (xs c) c 19 (by decide)) $$ HV
  iintro %_ HV
  ihave H := Hk $$ HO HI HV
  iapply (run_ret c (by rfl)) $$ H

theorem part14 {Q : _ → sProp 𝕄} :
    (levAts L lv : sProp 𝕄) ⊢ iprop(OwS c 16 1 -∗ Inn (xs c) c 16 10 -∗ Ov (xs c) c 19
      -∗ (OwS c 16 1 -∗ Inn (xs c) c 16 11 -∗ Ov (xs c) c 22 -∗ Q ⟨totC (xs c) 11, off (xs c) 22⟩)
      -∗ Wp c (onDev k0_part14 k0_pay1 (totC (xs c) 10) (off (xs c) 19) (k0_pay74 k0_pay1 (blk (xs c) 19))
          (k0_pay75 k0_pay1 (off (xs c) 17) (k0_pay66 (blk (xs c) 17)) (constant S128x1024 .f32 0x00000000#32) (blk (xs c) 18) (blk (xs c) 19))) Q) := by
  iintro #HL HO HI HV Hk
  rw [onDev, k0_part14_eq_skeleton]
  unfold k0_part14_skel
  iapply (step_store_blk (xs c) c 19 (by decide) (by rfl)) $$ HV
  iintro HV
  iapply (step_chunk xs c _ (by decide)) $$ HL HI HO
  iintro HI HO
  iterate 2 (iapply (step_block xs c _ (by decide) (by decide) (by rfl)) $$ HI HV; iintro HI HV)
  ihave H := Hk $$ HO HI HV
  iapply (run_ret c (by rfl)) $$ H

theorem part15 {Q : _ → sProp 𝕄} :
    (levAts L lv : sProp 𝕄) ⊢ iprop(OwS c 16 1 -∗ Inn (xs c) c 16 11 -∗ Ov (xs c) c 22
      -∗ (OwS c 16 1 -∗ Inn (xs c) c 16 13 -∗ Ov (xs c) c 24 -∗ Q ⟨totC (xs c) 12, off (xs c) 24, k0_pay91 (chk (xs c) 12)⟩)
      -∗ Wp c (onDev k0_part15 k0_pay1 (totC (xs c) 11) (off (xs c) 22)) Q) := by
  iintro #HL HO HI HV Hk
  rw [onDev, k0_part15_eq_skeleton]
  unfold k0_part15_skel
  iapply (step_chunk xs c _ (by decide)) $$ HL HI HO
  iintro HI HO
  iterate 2 (iapply (step_block xs c _ (by decide) (by decide) (by rfl)) $$ HI HV; iintro HI HV)
  iapply (step_chunk xs c _ (by decide)) $$ HL HI HO
  iintro HI HO
  ihave H := Hk $$ HO HI HV
  iapply (run_ret c (by rfl)) $$ H

theorem part16 {Q : _ → sProp 𝕄} :
    (levAts L lv : sProp 𝕄) ⊢ iprop(OwS c 16 1 -∗ Inn (xs c) c 16 13 -∗ Ov (xs c) c 24
      -∗ (OwS c 16 1 -∗ Inn (xs c) c 16 14 -∗ Ov (xs c) c 26 -∗ Q ⟨off (xs c) 26, totC (xs c) 14, k0_pay99 k0_pay1 (blk (xs c) 26),
          k0_pay100 k0_pay1 (off (xs c) 24) (blk (xs c) 24) (blk (xs c) 25)⟩)
      -∗ Wp c (onDev k0_part16 k0_pay1 (totC (xs c) 12) (off (xs c) 24) (k0_pay91 (chk (xs c) 12))) Q) := by
  iintro #HL HO HI HV Hk
  rw [onDev, k0_part16_eq_skeleton]
  unfold k0_part16_skel
  iterate 2 (iapply (step_block xs c _ (by decide) (by decide) (by rfl)) $$ HI HV; iintro HI HV)
  iapply (step_chunk xs c _ (by decide)) $$ HL HI HO
  iintro HI HO
  iapply (step_load_blk (xs c) c 26 (by decide) (by decide)) $$ HI
  iintro HI
  ihave H := Hk $$ HO HI HV
  iapply (run_ret c (by rfl)) $$ H

theorem part17 {Q : _ → sProp 𝕄} :
    (levAts L lv : sProp 𝕄) ⊢ iprop(OwS c 16 1 -∗ Inn (xs c) c 16 14 -∗ Ov (xs c) c 26
      -∗ (OwS c 16 1 -∗ Inn (xs c) c 16 15 -∗ Ov (xs c) c 29 -∗ Q ⟨off (xs c) 28, totC (xs c) 15, k0_pay109 k0_pay1 (blk (xs c) 28)⟩)
      -∗ Wp c (onDev k0_part17 k0_pay1 (off (xs c) 26) (totC (xs c) 14) (k0_pay99 k0_pay1 (blk (xs c) 26))
          (k0_pay100 k0_pay1 (off (xs c) 24) (blk (xs c) 24) (blk (xs c) 25))) Q) := by
  iintro #HL HO HI HV Hk
  rw [onDev, k0_part17_eq_skeleton]
  unfold k0_part17_skel
  iapply (step_put xs c (by decide) (by rfl)) $$ HV
  iintro HV
  iapply (step_block xs c _ (by decide) (by decide) (by rfl)) $$ HI HV
  iintro HI HV
  iapply (step_chunk xs c _ (by decide)) $$ HL HI HO
  iintro HI HO
  iapply (step_block xs c _ (by decide) (by decide) (by rfl)) $$ HI HV
  iintro HI HV
  ihave H := Hk $$ HO HI HV
  iapply (run_ret c (by rfl)) $$ H

theorem part18 {Q : _ → sProp 𝕄} :
    Ctx xs K ⊢ iprop(levAts L lv -∗ OwS c 16 1 -∗ Inn (xs c) c 16 15 -∗ Ov (xs c) c 29 -∗ Tt c -∗ BarPre c
      -∗ bigSep Finset.univ (sndPre c)
      -∗ (OwS c 16 3 -∗ Inn (xs c) c 16 16 -∗ Ov (xs c) c 30 -∗ totRest xs c -∗ semVal (barCell c) 0 -∗ Snd xs c 3 0
          -∗ Q ⟨off (xs c) 30, Scalar.extui (Scalar.cmpi .slt (me c) 3#32)⟩)
      -∗ Wp c (onDev k0_part18 c (me c) barA k0_pay1 (off (xs c) 28) (totC (xs c) 15) (k0_pay109 k0_pay1 (blk (xs c) 28))) Q) := by
  iintro #HC #HL HO HI HV HT HB HS Hk
  rw [onDev, k0_part18_eq_skeleton]
  unfold k0_part18_skel
  iapply (step_block xs c _ (by decide) (by decide) (by rfl)) $$ HI HV
  iintro HI HV
  iapply (step_chunk xs c _ (by decide)) $$ HL HI HO
  iintro HI HO
  iapply (step_dead_tot c) $$ HT
  iintro %_ HT
  iapply (step_store_tot xs c (by rfl)) $$ HT
  iintro HR HT
  iapply (step_barrier xs K c) $$ HC HL HB HO
  iintro HB Hp HO
  ihave HS := (snd_begin xs c) $$ [HS Hp HT]
  · isplitl [HS]; · iexact HS
    isplitl [Hp] <;> iassumption
  iterate 2 (iapply (step_send xs K c _ (by decide) (by revert c; decide) (fun _ => by rfl) (by revert c; decide) (by revert c; decide)) $$ HC HS HO; iintro HS HO)
  ihave H := Hk $$ HO HI HV HR HB HS
  iapply (run_ret c (by rfl)) $$ H

end Cert.Scan
-- ==== Proof.Body.lean ====
/-
# `Body` — the body from the sends on, and the whole of it

The parts that send, receive and raise what the first pass left, run as in `Part`; then the whole body on one device.
-/
module

public import proofs.«01_k».proof.Proof.Part

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (K : Dev nD × CI → ℕ) (c : Dev nD)

/-- Once every signal and every send is made nothing is owed. -/
theorem owS_done : OwS (F := F) c 16 16 ⊢ OwZ c := by
  unfold OwS OwZ
  rw [Ow_done]

theorem part19 {Q : _ → sProp 𝕄} :
    Ctx xs K ⊢ iprop(OwS c 16 3 -∗ Snd xs c 3 0
      -∗ (OwS c 16 13 -∗ Snd xs c 13 0 -∗ Q (Scalar.extui (Scalar.cmpi .slt (me c) 13#32)))
      -∗ Wp c (onDev k0_part19 c (me c) (Scalar.extui (Scalar.cmpi .slt (me c) 3#32))) Q) := by
  iintro #HC HO HS Hk
  rw [onDev, k0_part19_eq_skeleton]
  unfold k0_part19_skel
  iterate 10 (iapply (step_send xs K c _ (by decide) (by revert c; decide) (fun _ => by rfl) (by revert c; decide) (by revert c; decide)) $$ HC HS HO; iintro HS HO)
  ihave H := Hk $$ HO HS
  iapply (run_ret c (by rfl)) $$ H

theorem part20 {Q : _ → sProp 𝕄} :
    Ctx xs K ⊢ iprop(OwS c 16 13 -∗ Snd xs c 13 0 -∗ Inn (xs c) c 16 16 -∗ Ov (xs c) c 30 -∗ Rc xs c 0
      -∗ (OwZ c -∗ Snd xs c 16 0 -∗ Inn (xs c) c 16 16 -∗ Ov (xs c) c 32 -∗ Rc xs c 2 -∗ Q 2#32)
      -∗ Wp c (onDev k0_part20 c (me c) k0_pay1 (off (xs c) 30) (Scalar.extui (Scalar.cmpi .slt (me c) 13#32))) Q) := by
  iintro #HC HO HS HI HV HR Hk
  rw [onDev, k0_part20_eq_skeleton]
  unfold k0_part20_skel
  iterate 3 (iapply (step_send xs K c _ (by decide) (by revert c; decide) (fun _ => by rfl) (by revert c; decide) (by revert c; decide)) $$ HC HS HO; iintro HS HO)
  iterate 2 (iapply (step_block xs c _ (by decide) (by decide) (by rfl)) $$ HI HV; iintro HI HV)
  ihave HO := (owS_done c) $$ HO
  iterate 2 (iapply (step_recv xs K c _ (by decide) (by revert c; decide)) $$ HC HR HO; iintro HR HO)
  ihave H := Hk $$ HO HS HI HV HR
  iapply (run_ret c (by rfl)) $$ H

theorem part21 {Q : _ → sProp 𝕄} :
    Ctx xs K ⊢ iprop(OwZ c -∗ Rc xs c 2 -∗ (OwZ c -∗ Rc xs c 12 -∗ Q 12#32) -∗ Wp c (onDev k0_part21 (me c) 2#32) Q) := by
  iintro #HC HO HR Hk
  rw [onDev, k0_part21_eq_skeleton]
  unfold k0_part21_skel
  iterate 10 (iapply (step_recv xs K c _ (by decide) (by revert c; decide)) $$ HC HR HO; iintro HR HO)
  ihave H := Hk $$ HO HR
  iapply (run_ret c (by rfl)) $$ H

theorem part22 {Q : _ → sProp 𝕄} :
    Ctx xs K ⊢ iprop(OwZ c -∗ Rc xs c 12 -∗ Out xs c 0 0 0
      -∗ (OwZ c -∗ bigSep Finset.univ (fun k => semVal (recvCell c k) 0) -∗ Tb xs c -∗ Out xs c 1 1 0
          -∗ Q ⟨off16 xs c, k0_pay124 (off16 xs c) (chk1 (xs c) 1)⟩)
      -∗ Wp c (onDev k0_part22 (me c) 12#32) Q) := by
  iintro #HC HO HR HY Hk
  rw [onDev, k0_part22_eq_skeleton]
  unfold k0_part22_skel
  iterate 3 (iapply (step_recv xs K c _ (by decide) (by revert c; decide)) $$ HC HR HO; iintro HR HO)
  iapply fupd_wp
  iapply (rc_skip xs K c 15 (by decide) (by revert c; decide)) $$ HC HR
  iintro HR
  imodintro
  ihave HR := (rc_end xs c) $$ HR
  icases HR with ⟨Hs, HT⟩
  iapply (step_load_table xs c) $$ HT
  iintro %T %hT HT
  iapply (step_load_out xs c 0 (by decide)) $$ HY
  iintro HY
  iapply (step_load_out xs c 0 (by decide)) $$ HY
  iintro HY
  iapply (step_store_out xs c 0 (by decide) (congrArg (fun o => k0_pay122 o (chk1 (xs c) 0)) hT)) $$ HY
  iintro HY
  iapply (step_out_start xs c 0 (by decide)) $$ HY
  iintro HY
  iterate 2 (iapply (step_load_out xs c 1 (by decide)) $$ HY; iintro HY)
  ihave H := Hk $$ HO Hs HT HY
  iapply (run_ret c (congrArg (fun o => (⟨o, k0_pay124 o (chk1 (xs c) 1)⟩ : Σ' (_ : FVec F S1x1024 .bf16), FVec F S256x1024 .bf16)) hT)) $$ H

theorem part23 {Q : _ → sProp 𝕄} :
    Out xs c 1 1 0 ⊢ iprop((Out xs c 4 4 0 -∗ Q (k0_pay124 (off16 xs c) (chk1 (xs c) 4)))
      -∗ Wp c (onDev k0_part23 (off16 xs c) (k0_pay124 (off16 xs c) (chk1 (xs c) 1))) Q) := by
  iintro HY Hk
  rw [onDev, k0_part23_eq_skeleton]
  unfold k0_part23_skel
  iapply (step_store_out xs c 1 (by decide) (by rfl)) $$ HY
  iintro HY
  iapply (step_out_start xs c _ (by decide)) $$ HY
  iintro HY
  iterate 2 (iapply (step_raise xs c _ (by decide) (by rfl)) $$ HY; iintro HY)
  iapply (step_load_out xs c _ (by decide)) $$ HY
  iintro HY
  ihave H := Hk $$ HY
  iapply (run_ret c (by rfl)) $$ H

theorem part24 {Q : _ → sProp 𝕄} :
    Out xs c 4 4 0 ⊢ iprop((Out xs c 7 7 0 -∗ Q (chk1 (xs c) 7))
      -∗ Wp c (onDev k0_part24 (off16 xs c) (k0_pay124 (off16 xs c) (chk1 (xs c) 4))) Q) := by
  iintro HY Hk
  rw [onDev, k0_part24_eq_skeleton]
  unfold k0_part24_skel
  iapply (step_load_out xs c 4 (by decide)) $$ HY
  iintro HY
  iapply (step_store_out xs c 4 (by decide) (by rfl)) $$ HY
  iintro HY
  iapply (step_out_start xs c _ (by decide)) $$ HY
  iintro HY
  iterate 2 (iapply (step_raise xs c _ (by decide) (by rfl)) $$ HY; iintro HY)
  iapply (step_load_out xs c _ (by decide)) $$ HY
  iintro HY
  ihave H := Hk $$ HY
  iapply (run_ret c (by rfl)) $$ H

theorem part25 {Q : _ → sProp 𝕄} :
    Out xs c 7 7 0 ⊢ iprop((Out xs c 10 10 0 -∗ Q ⟨⟩) -∗ Wp c (onDev k0_part25 (off16 xs c) (chk1 (xs c) 7)) Q) := by
  iintro HY Hk
  rw [onDev, k0_part25_eq_skeleton]
  unfold k0_part25_skel
  iapply (step_load_out xs c 7 (by decide)) $$ HY
  iintro HY
  iapply (step_store_out xs c 7 (by decide) (by rfl)) $$ HY
  iintro HY
  iapply (step_out_start xs c _ (by decide)) $$ HY
  iintro HY
  iterate 2 (iapply (step_raise xs c _ (by decide) (by rfl)) $$ HY; iintro HY)
  ihave H := Hk $$ HY
  iapply (run_ret c (by rfl)) $$ H

theorem part26 {Q : _ → sProp 𝕄} :
    Out xs c 10 10 0 ⊢ iprop((Out xs c 13 12 0 -∗ Q ⟨⟩) -∗ Wp c (onDev k0_part26 (off16 xs c)) Q) := by
  iintro HY Hk
  rw [onDev, k0_part26_eq_skeleton]
  unfold k0_part26_skel
  iterate 2 (iapply (step_raise xs c _ (by decide) (by rfl)) $$ HY; iintro HY)
  iterate 2 (iapply (step_load_out xs c _ (by decide)) $$ HY; iintro HY)
  iapply (step_store_out xs c _ (by decide) (by rfl)) $$ HY
  iintro HY
  ihave H := Hk $$ HY
  iapply (run_ret c (by rfl)) $$ H

theorem part27 {Q : _ → sProp 𝕄} :
    Out xs c 13 12 0 ⊢ iprop((Out xs c 16 15 0 -∗ Q ⟨⟩) -∗ Wp c (onDev k0_part27 (off16 xs c)) Q) := by
  iintro HY Hk
  rw [onDev, k0_part27_eq_skeleton]
  unfold k0_part27_skel
  iapply (step_out_start xs c 12 (by decide)) $$ HY
  iintro HY
  iterate 2 (iapply (step_raise xs c _ (by decide) (by rfl)) $$ HY; iintro HY)
  iterate 2 (iapply (step_load_out xs c _ (by decide)) $$ HY; iintro HY)
  iapply (step_store_out xs c _ (by decide) (by rfl)) $$ HY
  iintro HY
  ihave H := Hk $$ HY
  iapply (run_ret c (by rfl)) $$ H

theorem part28 {Q : _ → sProp 𝕄} :
    Out xs c 16 15 0 ⊢ iprop(OwZ c -∗ (Out xs c 16 16 5 -∗ OwZ c -∗ Q ⟨⟩) -∗ Wp c (onDev k0_part28) Q) := by
  iintro HY HO Hk
  rw [onDev, k0_part28_eq_skeleton]
  unfold k0_part28_skel
  iapply (step_out_start xs c 15 (by decide)) $$ HY
  iintro HY
  iterate 5 (iapply (step_out_wait xs c _ (by decide)) $$ HY HO; iintro HY HO)
  ihave H := Hk $$ HY HO
  iapply (run_ret c (by rfl)) $$ H

theorem part29 {Q : _ → sProp 𝕄} :
    Out xs c 16 16 5 ⊢ iprop(OwZ c -∗ (Out xs c 16 16 11 -∗ OwZ c -∗ Q ⟨⟩) -∗ Wp c (onDev k0_part29) Q) := by
  iintro HY HO Hk
  rw [onDev, k0_part29_eq_skeleton]
  unfold k0_part29_skel
  iterate 6 (iapply (step_out_wait xs c _ (by decide)) $$ HY HO; iintro HY HO)
  ihave H := Hk $$ HY HO
  iapply (run_ret c (by rfl)) $$ H

theorem part30 {Q : _ → sProp 𝕄} :
    Ctx xs K ⊢ iprop(Out xs c 16 16 11 -∗ OwZ c -∗ Snd xs c 16 1
      -∗ (Out xs c 16 16 16 -∗ OwZ c -∗ Snd xs c 16 3 -∗ Q (Scalar.cmpi .slt (me c) 3#32))
      -∗ Wp c (onDev k0_part30 c (me c)) Q) := by
  iintro #HC HY HO HS Hk
  rw [onDev, k0_part30_eq_skeleton]
  unfold k0_part30_skel
  iterate 5 (iapply (step_out_wait xs c _ (by decide)) $$ HY HO; iintro HY HO)
  iterate 2 (iapply (step_send_wait xs K c _ (by decide) (by revert c; decide)) $$ HC HS HO; iintro HS HO)
  ihave H := Hk $$ HY HO HS
  iapply (run_ret c (by rfl)) $$ H

theorem part31 {Q : _ → sProp 𝕄} :
    Ctx xs K ⊢ iprop(OwZ c -∗ Snd xs c 16 3 -∗ (OwZ c -∗ Snd xs c 16 13 -∗ Q (Scalar.cmpi .slt (me c) 13#32))
      -∗ Wp c (onDev k0_part31 c (me c) (Scalar.cmpi .slt (me c) 3#32)) Q) := by
  iintro #HC HO HS Hk
  rw [onDev, k0_part31_eq_skeleton]
  unfold k0_part31_skel
  iterate 10 (iapply (step_send_wait xs K c _ (by decide) (by revert c; decide)) $$ HC HS HO; iintro HS HO)
  ihave H := Hk $$ HO HS
  iapply (run_ret c (by rfl)) $$ H

/-- A part of the body before the rest of it. -/
theorem run_part {α β : Type} {p : Prog (TpuEff nD τ sig (Elt F) Λ₀ .tc) α}
    {k : α → Prog (TpuEff nD τ sig (Elt F) Λ₀ .tc) β} {Q : β → sProp 𝕄} :
    Wp c p (fun a => Wp c (k a) Q) ⊢ Wp c (p >>= k) Q := by
  rw [Wp, Wp, wp_bind]

theorem run_body {Q : PUnit → sProp 𝕄} :
    Ctx xs K ⊢ iprop(levAts L lv -∗ Sg c 0 -∗ OwS c 0 1 -∗ Inn (xs c) c 0 0 -∗ Ov (xs c) c 0 -∗ Yy c -∗ Tt c -∗ BarPre c
      -∗ bigSep Finset.univ (sndPre c) -∗ Rc xs c 0
      -∗ (Sg c 16 -∗ OwZ c -∗ Inn (xs c) c 16 16 -∗ Out xs c 16 16 16 -∗ totRest xs c -∗ semVal (barCell c) 0
          -∗ Snd xs c 16 16 -∗ bigSep Finset.univ (fun k => semVal (recvCell c k) 0) -∗ Tb xs c -∗ Q ⟨⟩)
      -∗ Wp c (onDev cc0_body) Q) := by
  iintro #HC #HL HG HO HI HV HY HT HB HS HR Hk
  rw [onDev, cc0_body_eq_skeleton]
  unfold cc0_body_skel
  iapply (run_part c)
  iapply (part1 xs K c) $$ HC HG HO
  iintro HG HO
  iapply (run_part c)
  iapply (part2 xs K c) $$ HC HG HO HI
  iintro HG HO HI
  iapply (run_part c)
  iapply (part3 xs c) $$ HI
  iintro HI
  iapply (run_part c)
  iapply (part4 xs c) $$ HI
  iintro HI
  iapply (run_part c)
  iapply (part5 xs c) $$ HL HO HI
  iintro HO HI
  iapply (run_part c)
  iapply (part6 xs c) $$ HL HO HI HV
  iintro HO HI HV
  iapply (run_part c)
  iapply (part7 xs c) $$ HL HO HI HV
  iintro HO HI HV
  iapply (run_part c)
  iapply (part8 xs c) $$ HL HO HI HV
  iintro HO HI HV
  iapply (run_part c)
  iapply (part9 xs c) $$ HL HO HI HV
  iintro HO HI HV
  iapply (run_part c)
  iapply (part10 xs c) $$ HL HO HI HV
  iintro HO HI HV
  iapply (run_part c)
  iapply (part11 xs c) $$ HL HO HI HV
  iintro HO HI HV
  iapply (run_part c)
  iapply (part12 xs c) $$ HL HO HI HV
  iintro HO HI HV
  iapply (run_part c)
  iapply (part13 xs c) $$ HL HO HI HV
  iintro HO HI HV
  iapply (run_part c)
  iapply (part14 xs c) $$ HL HO HI HV
  iintro HO HI HV
  iapply (run_part c)
  iapply (part15 xs c) $$ HL HO HI HV
  iintro HO HI HV
  iapply (run_part c)
  iapply (part16 xs c) $$ HL HO HI HV
  iintro HO HI HV
  iapply (run_part c)
  iapply (part17 xs c) $$ HL HO HI HV
  iintro HO HI HV
  iapply (run_part c)
  iapply (part18 xs K c) $$ HC HL HO HI HV HT HB HS
  iintro HO HI HV HT HB HS
  iapply (run_part c)
  iapply (part19 xs K c) $$ HC HO HS
  iintro HO HS
  iapply (run_part c)
  iapply (part20 xs K c) $$ HC HO HS HI HV HR
  iintro HO HS HI HV HR
  ihave HY := (out_begin xs c) $$ [HV HY]
  · isplitl [HV] <;> iassumption
  iapply (run_part c)
  iapply (part21 xs K c) $$ HC HO HR
  iintro HO HR
  iapply (run_part c)
  iapply (part22 xs K c) $$ HC HO HR HY
  iintro HO Hs HR HY
  iapply (run_part c)
  iapply (part23 xs c) $$ HY
  iintro HY
  iapply (run_part c)
  iapply (part24 xs c) $$ HY
  iintro HY
  iapply (run_part c)
  iapply (part25 xs c) $$ HY
  iintro HY
  iapply (run_part c)
  iapply (part26 xs c) $$ HY
  iintro HY
  iapply (run_part c)
  iapply (part27 xs c) $$ HY
  iintro HY
  iapply (run_part c)
  iapply (part28 xs c) $$ HY HO
  iintro HY HO
  iapply (run_part c)
  iapply (part29 xs c) $$ HY HO
  iintro HY HO
  iapply fupd_wp
  iapply (snd_first xs K c) $$ HC HS
  iintro HS
  imodintro
  iapply (run_part c)
  iapply (part30 xs K c) $$ HC HY HO HS
  iintro HY HO HS
  iapply (run_part c)
  iapply (part31 xs K c) $$ HC HO HS
  iintro HO HS
  iterate 3 (iapply (step_send_wait xs K c _ (by decide) (by revert c; decide)) $$ HC HS HO; iintro HS HO)
  ihave H := Hk $$ HG HO HI HY HT HB HS Hs HR
  iapply (run_ret c (by rfl)) $$ H

end Cert.Scan
-- ==== Proof.Start.lean ====
/-
# `Start` — what each device is dealt at the launch

The sixteen devices' cells are opened together: each cell's invariant is made once, and known to every device.
A device keeps its place at each of its own cells, and the token of every duty it pays: on each barrier cell the
duty named after it, on its own send cells the duty, and on its receive cell at every device the duty. Its
semaphores for its own copies it keeps as they are.

What all the devices owe a cell together is its credit: fifteen units for a barrier cell, a row's for a receive
cell `k` of a later device.
-/
module

public import proofs.«01_k».proof.Proof.Body

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores -/

/-- The four arrays of sixteen: in, out, send, receive. -/
abbrev OI : Type := (Fin 16 ⊕ Fin 16) ⊕ (Fin 16 ⊕ Fin 16)
def osem : OI → SemLoc sig
  | .inl (.inl k) => .dma (inS k)
  | .inl (.inr k) => .dma (outS k)
  | .inr (.inl k) => .dma (sendS k)
  | .inr (.inr k) => .dma (recvS k)

/-- The place of a semaphore among the sixty-four. -/
def oIx : OI → ℕ
  | .inl (.inl k) => k.val
  | .inl (.inr k) => 16 + k.val
  | .inr (.inl k) => 32 + k.val
  | .inr (.inr k) => 48 + k.val
def semIx : SemLoc sig → ℕ
  | .reg _ => 64
  | .dma q => q.val
theorem semIx_osem : ∀ i, semIx (osem i) = oIx i
  | .inl (.inl k) => inS_val k
  | .inl (.inr k) => outS_val k
  | .inr (.inl k) => sendS_val k
  | .inr (.inr k) => recvS_val k
theorem oIx_injective : Function.Injective oIx := by
  rintro ((a | a) | (a | a)) ((b | b) | (b | b)) h <;> unfold oIx at h <;> dsimp only at h <;>
    first
    | exact absurd h (by omega)
    | (have e : a = b := Fin.ext (by omega)
       rw [e])
theorem osem_injective : Function.Injective osem := fun i j h =>
  oIx_injective (by rw [← semIx_osem, ← semIx_osem, h])

theorem ownSemFacts : Pipeline.OwnSemFacts cfg0.spec osem where
  isScoped := by decide
  inj := osem_injective
  disj := fun _ w => w.elim0

variable (c : Dev nD)

/-- The semaphores of the device's own copies. -/
def lsems : sProp 𝕄 :=
  iprop((bigSep Finset.univ fun k => semVal ((c : Thread nD τ), .dma (inS k)) 0) ∗ bigSep Finset.univ fun k => semVal ((c : Thread nD τ), .dma (outS k)) 0)

omit [FloatOps F] in
theorem ownSems0_eq : (Pipeline.ownSems0 (Ix := Unit) (Name := ℕ) (U := UU) (Lvl := ℕ) (Val := Elt F) (τ := τ) osem c : sProp 𝕄)
    = iprop(lsems c ∗ (bigSep Finset.univ fun k => semVal (sendCell c k) 0) ∗ bigSep Finset.univ fun k => semVal (recvCell c k) 0) := by
  unfold Pipeline.ownSems0 lsems
  rw [bigSep_univ_sum, bigSep_univ_sum, bigSep_univ_sum]
  rfl
omit [FloatOps F] in
theorem unscopedSems0_eq : (unscopedSems0 c : sProp 𝕄) = semVal (barCell c) 0 := by
  unfold unscopedSems0; rw [bigSep_eq_bigSepL_of_eq [SemLoc.reg barS] (by decide) (by decide)]; rfl

omit [FloatOps F] in
/-- A family over a device's cells, kind by kind. -/
theorem cells_kinds (Φ : CI → sProp 𝕄) : bigSep Finset.univ Φ
    = iprop(Φ (.inl ()) ∗ (bigSep Finset.univ fun j => Φ (.inr (.inl j))) ∗ bigSep Finset.univ fun k => Φ (.inr (.inr k))) := by
  rw [bigSep_univ_sum, bigSep_univ_sum, bigSep_univ_eq_bigSepL [()] (by decide) (by decide)]
  rfl

/-! ## The cells and the tokens, as minted -/

/-- The place of a device's cell among its semaphores. -/
def cIx : CI → ℕ
  | .inl _ => 64
  | .inr (.inl j) => 32 + j.val
  | .inr (.inr k) => 48 + k.val
theorem cIx_injective : Function.Injective cIx := by decide

theorem kcell_injective : Function.Injective kcell := by
  have dev : ∀ i, (kcell i).1.1 = i.1 := by rintro ⟨c, _ | _ | _⟩ <;> rfl
  have ix : ∀ i, semIx (kcell i).2 = cIx i.2 := by
    rintro ⟨c, _ | j | k⟩
    · rfl
    · exact sendS_val j
    · exact recvS_val k
  intro a b h
  exact Prod.ext (by rw [← dev a, h, dev]) (cIx_injective (by rw [← ix a, h, ix]))

def allCells : Finset (GSem nD τ sig) := Finset.univ.map ⟨kcell, kcell_injective⟩

/-- The duty that device `c` pays towards device `p`: to its barrier cell, its own send cell for it, its receive cell. -/
def tokOf : Dev nD × (Unit ⊕ (Unit ⊕ Unit)) × Dev nD → GSem nD τ sig × ℕ × Dev nD
  | (c, .inl _, p) => (barCell p, 0, c)
  | (c, .inr (.inl _), p) => (sendCell c p, 0, 0)
  | (c, .inr (.inr _), p) => (recvCell p c, 0, 0)

theorem cell_eq {c d : Dev nD} {a b : CI} (h : kcell (c, a) = kcell (d, b)) : c = d ∧ a = b :=
  Prod.mk.inj (kcell_injective h)

theorem tokOf_injective : Function.Injective tokOf := by
  rintro ⟨c, i, p⟩ ⟨d, j, q⟩ h
  rcases i with _ | _ | _ <;> rcases j with _ | _ | _ <;>
    have h1 := congrArg (fun x : GSem nD τ sig × ℕ × Dev nD => x.1) h <;>
    have h2 := congrArg (fun x : GSem nD τ sig × ℕ × Dev nD => x.2.2) h <;>
    dsimp only [tokOf] at h1 h2
  · obtain ⟨rfl, _⟩ := cell_eq (a := .inl ()) (b := .inl ()) h1
    subst h2; rfl
  · cases (cell_eq (a := .inl ()) (b := .inr (.inl q)) h1).2
  · cases (cell_eq (a := .inl ()) (b := .inr (.inr d)) h1).2
  · cases (cell_eq (a := .inr (.inl p)) (b := .inl ()) h1).2
  · obtain ⟨rfl, e⟩ := cell_eq (a := .inr (.inl p)) (b := .inr (.inl q)) h1
    cases e; rfl
  · cases (cell_eq (a := .inr (.inl p)) (b := .inr (.inr d)) h1).2
  · cases (cell_eq (a := .inr (.inr c)) (b := .inl ()) h1).2
  · cases (cell_eq (a := .inr (.inr c)) (b := .inr (.inl q)) h1).2
  · obtain ⟨rfl, e⟩ := cell_eq (a := .inr (.inr c)) (b := .inr (.inr d)) h1
    cases e; rfl

def allToks : Finset (GSem nD τ sig × ℕ × Dev nD) := Finset.univ.map ⟨tokOf, tokOf_injective⟩

def u₀ : UU :=
  (initOf (Pipeline.cells cfgs cellOf_inj) (Pipeline.launchToks cfgs cellOf_inj), (initOf allCells allToks, 1))

/-- The tokens of the duties device `c` pays. -/
def toks : sProp 𝕄 :=
  iprop((bigSep Finset.univ fun p => dutyTok ER (barCell p) 0 c) ∗ (bigSep Finset.univ fun j => dutyTok ER (sendCell c j) 0 0)
    ∗ bigSep Finset.univ fun j => dutyTok ER (recvCell j c) 0 0)
/-- Its places at its cells. -/
def places : sProp 𝕄 := bigSep Finset.univ fun i : CI => atPos ER (kcell (c, i)) 0 ∅ 0

variable (xs : Dev nD → XBuf F)

def G : sProp 𝕄 :=
  iprop((bigSep Finset.univ fun i : CI => roundState ER (Rd xs) (kcell (c, i)) 0)
    ∗ (bigSep Finset.univ fun i : CI => reached ER (kcell (c, i)) 0) ∗ places c ∗ toks c)

/-- What the opening of the cells makes of it. -/
def G' : sProp 𝕄 := iprop((∃ K, Ctx xs K) ∗ (places c ∗ toks c) ∗ lsems c)

omit [FloatOps F] in
theorem cells_all (Φ : GSem nD τ sig → sProp 𝕄) :
    bigSep allCells Φ = bigSep Finset.univ fun c : Dev nD => bigSep Finset.univ fun i : CI => Φ (kcell (c, i)) := by
  unfold allCells; rw [bigSep_map, bigSep_univ_prod]; rfl

omit [FloatOps F] in
theorem toks_all : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_prod, bigSep_univ_sum, bigSep_univ_sum, bigSep_univ_eq_bigSepL [()] (by decide) (by decide),
    bigSep_univ_eq_bigSepL [()] (by decide) (by decide), bigSep_univ_eq_bigSepL [()] (by decide) (by decide)]
  rfl

theorem fund : BI.own (ER (initOf allCells allToks)) ⊢ (|==> bigSep Finset.univ (fun c => G c xs) : sProp 𝕄) := by
  iintro HX
  imod (Rounds.fund ER (Rd xs) allCells allToks) $$ HX with ⟨Hst, Hr, Hat, Htok⟩
  imodintro
  ihave Hst := (Entails.of_eq (cells_all fun g => roundState ER (Rd xs) g 0)) $$ Hst
  ihave Hat := (Entails.of_eq (cells_all fun g => atPos ER g 0 ∅ 0)) $$ Hat
  ihave Hr := (Entails.of_eq (cells_all fun g => reached ER g 0)) $$ Hr
  ihave Htok := (Entails.of_eq toks_all) $$ Htok
  unfold G places; simp only [bigSep_sep']
  isplitl [Hst]; · iexact Hst
  isplitl [Hr]; · iexact Hr
  isplitl [Hat]; · iexact Hat
  iexact Htok

/-! ## Opening the cells -/

theorem core_alloc :
    iprop(Pipeline.ownSems0 (Ix := Unit) (Name := ℕ) (U := UU) (Lvl := ℕ) (Val := Elt F) (τ := τ) osem c ∗ unscopedSems0 c ∗ G c xs)
      ⊢ |={Set.univ}=> iprop((bigSep Finset.univ fun i : CI => iprop(∃ κ : ℕ, cellInv ER (Rd xs) κ (kcell (c, i))))
          ∗ (bigSep Finset.univ fun i : CI => reached ER (kcell (c, i)) 0) ∗ (places c ∗ toks c) ∗ lsems c) := by
  unfold G
  rw [ownSems0_eq, unscopedSems0_eq]
  iintro ⟨⟨Hl, Hs, Hr⟩, Hb, Hst, Hre, Hat, Htok⟩
  have hopen : iprop((bigSep Finset.univ fun i : CI => semVal (kcell (c, i)) 0) ∗ bigSep Finset.univ fun i : CI => roundState ER (Rd xs) (kcell (c, i)) 0)
      ⊢ (|={Set.univ}=> bigSep Finset.univ fun i : CI => iprop(∃ κ : ℕ, cellInv ER (Rd xs) κ (kcell (c, i))) : sProp 𝕄) := by
    rw [← bigSep_sep']
    exact (bigSep_mono fun i _ => (Rounds.body_intro ER (Rd xs) (kcell (c, i))).trans inv_alloc).trans (bigSep_fupd _ _)
  imod (hopen) $$ [Hs Hr Hb Hst] with Hinv
  · isplitr [Hst]
    · iapply (Entails.of_eq (cells_kinds fun i => semVal (kcell (c, i)) 0).symm)
      isplitl [Hb]; · iexact Hb
      isplitl [Hs]; · iexact Hs
      iexact Hr
    iexact Hst
  imodintro
  isplitl [Hinv]; · iexact Hinv
  isplitl [Hre]; · iexact Hre
  isplitr [Hl]
  · isplitl [Hat] <;> iassumption
  iexact Hl

theorem regroup :
    (bigSep Finset.univ fun c : Dev nD => iprop((bigSep Finset.univ fun i : CI => iprop(∃ κ : ℕ, cellInv ER (Rd xs) κ (kcell (c, i))))
          ∗ (bigSep Finset.univ fun i : CI => reached ER (kcell (c, i)) 0) ∗ (places c ∗ toks c) ∗ lsems c) : sProp 𝕄)
      ⊢ bigSep Finset.univ (fun c => G' c xs) := by
  rw [bigSep_sep', bigSep_sep', ← bigSep_univ_prod (fun i : Dev nD × CI => iprop(∃ κ : ℕ, cellInv ER (Rd xs) κ (kcell i))),
    ← bigSep_univ_prod (fun i : Dev nD × CI => (reached ER (kcell i) 0 : sProp 𝕄))]
  have hG : (bigSep Finset.univ (fun c => G' c xs) : sProp 𝕄) = iprop((bigSep Finset.univ fun _ : Dev nD => iprop(∃ K, Ctx xs K))
      ∗ bigSep Finset.univ fun c => iprop((places c ∗ toks c) ∗ lsems c)) := bigSep_sep' _ _ _
  rw [hG]
  iintro ⟨HI, HR, Hrest⟩
  isplitr [Hrest]
  · ihave HK := (BI.bigSep_exists_pi Finset.univ (fun (i : Dev nD × CI) (κ : ℕ) => (cellInv ER (Rd xs) κ (kcell i) : sProp 𝕄))) $$ HI
    icases HK with ⟨%K, HI⟩
    have one : Ctx xs K ⊢ (iprop(∃ K, Ctx xs K) : sProp 𝕄) := by
      iintro H
      iexists K
      iexact H
    have share : Ctx xs K ⊢ (bigSep Finset.univ fun _ : Dev nD => iprop(∃ K, Ctx xs K) : sProp 𝕄) :=
      (BI.bigSep_of_persistent Finset.univ (Ctx xs K)).trans (bigSep_mono fun _ _ => one)
    iapply share
    unfold Ctx
    isplitl [HI] <;> iassumption
  iexact Hrest

/-- The sixteen devices' cells, opened together. -/
theorem glob : (bigSep Finset.univ fun c => iprop(Pipeline.ownSems0 (Ix := Unit) (Name := ℕ) (U := UU) (Lvl := ℕ) (Val := Elt F) (τ := τ) osem c ∗ unscopedSems0 c ∗ G c xs) : sProp 𝕄)
    ⊢ |={Set.univ}=> bigSep Finset.univ (fun c => G' c xs) :=
  ((bigSep_mono fun c _ => core_alloc c xs).trans (bigSep_fupd _ _)).trans (BI.fupd_mono (regroup xs))

/-! ## The credit -/

theorem owed_bar (d : Dev nD) : Ow d 0 0 (barCell c) () = if c = d then 0 else 1 := by
  unfold Ow
  rw [Pi.add_apply, Finsupp.add_apply, Finset.sum_apply, Finset.sum_apply, Finsupp.finsetSum_apply, Finsupp.finsetSum_apply,
    Finset.sum_eq_zero (fun j _ => by rw [tallyAt_apply, if_neg (fun h => by cases (cell_eq (a := .inl ()) (b := .inr (.inr d)) h.1).2)]),
    Nat.zero_add, Finset.sum_congr rfl (fun (p : Dev nD) _ => show tallyAt (barCell p) () 1 (barCell c) () = if c = p then 1 else 0 from by
      rw [tallyAt_apply]
      exact if_congr ⟨fun h => (cell_eq (a := .inl ()) (b := .inl ()) h.1).1, fun h => ⟨by rw [h], rfl⟩⟩ rfl rfl),
    Finset.sum_ite_eq]
  by_cases h : c = d
  · rw [if_pos h, if_neg (fun hm => (Finset.mem_filter.mp hm).2.2 h)]
  · rw [if_neg h, if_pos (Finset.mem_filter.mpr ⟨Finset.mem_univ _, Nat.zero_le _, h⟩)]

theorem owed_recv (k d : Dev nD) : Ow d 0 0 (recvCell c k) () = if k = d then (if k.val < c.val then N else 0) else 0 := by
  unfold Ow
  rw [Pi.add_apply, Finsupp.add_apply, Finset.sum_apply, Finset.sum_apply, Finsupp.finsetSum_apply, Finsupp.finsetSum_apply,
    Finset.sum_eq_zero (s := Finset.univ.filter (fun p : Dev nD => 0 ≤ p.val ∧ p ≠ d))
      (fun j _ => by rw [tallyAt_apply, if_neg (fun h => by cases (cell_eq (a := .inr (.inr k)) (b := .inl ()) h.1).2)]),
    Nat.add_zero, Finset.sum_congr rfl (fun (j : Dev nD) _ => show tallyAt (recvCell j d) () N (recvCell c k) () = if c = j then (if k = d then N else 0) else 0 from by
      rw [tallyAt_apply]
      by_cases h1 : c = j
      · rw [if_pos h1]
        exact if_congr ⟨fun h => by cases (cell_eq (a := .inr (.inr k)) (b := .inr (.inr d)) h.1).2; rfl, fun h => ⟨by rw [h1, h], rfl⟩⟩ rfl rfl
      · rw [if_neg h1]
        exact if_neg fun h => h1 (cell_eq (a := .inr (.inr k)) (b := .inr (.inr d)) h.1).1),
    Finset.sum_ite_eq]
  by_cases h : k = d
  · subst h
    rw [if_pos rfl, if_pos rfl]
    exact if_congr ⟨fun hm => (Finset.mem_filter.mp hm).2.2, fun h => Finset.mem_filter.mpr ⟨Finset.mem_univ _, Nat.zero_le _, h⟩⟩ rfl rfl
  · rw [if_neg h, if_neg h, ite_self]

/-- What the devices owe at the launch. -/
abbrev O₀ (d : Dev nD) : CellTallies nD τ sig Unit := Ow d 0 0

theorem launch_bar : tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar c d]
  revert c; decide

theorem launch_recv (k : Dev nD) : tallyOn (recvCell c k) (launchCredit (Pipeline.owing O₀) 0 (recvCell c k))
    = (tallyAt (recvCell c k) () (if k.val < c.val then N else 0) : CellTallies nD τ sig Unit) := by
  unfold tallyAt; refine congrArg _ (Finsupp.ext fun u => ?_); cases u
  rw [Pipeline.launchCredit_owing, Finsupp.single_eq_same, Finset.sum_congr rfl fun d _ => owed_recv c k d, Finset.sum_ite_eq,
    if_pos (Finset.mem_univ _)]

omit [FloatOps F] in
theorem sep_drop (A B : sProp 𝕄) : iprop(A ∗ B) ⊢ B := by
  iintro ⟨-, H⟩
  iexact H

omit [FloatOps F] in
theorem creds : (Pipeline.launchCred O₀ c : sProp 𝕄)
    ⊢ iprop(cred (tallyAt (barCell c) () 15) ∗ bigSep Finset.univ fun k : Dev nD => cred (tallyAt (recvCell c k) () (if k.val < c.val then N else 0))) := by
  unfold Pipeline.launchCred
  refine (bigSep_subset (Finset.subset_univ (Finset.univ.map ⟨fun i : CI => (kcell (c, i)).2, fun i j h => ?_⟩))).trans ?_
  · refine (cell_eq (c := c) (d := c) (Prod.ext ?_ h)).2
    rcases i with _ | _ | _ <;> rcases j with _ | _ | _ <;> rfl
  rw [bigSep_map, cells_kinds]
  rw [← launch_bar, bigSep_congr fun (k : Dev nD) _ => congrArg (fun t => (cred t : sProp 𝕄)) (launch_recv c k).symm]
  exact sep_mono_right (sep_drop _ _)

end Cert.Scan

end
-- ==== Proof.Launch.lean ====
/-
# `Launch` — the run of the whole program

What the launch deals a device, split into what its body starts from; the body (`run_body`); and what the body
leaves, put together again: the buffers whole, every semaphore at zero. So the program ends, from any memory and
at any float values, with the argument as it was and the result `out2`.
-/
module

public import proofs.«01_k».proof.Proof.Start
public import Idealize.ShloMosaic.Lib.Pipeline.CollectiveSegs
public import Idealize.ShloMosaic.Lib.Quiescent

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The body's start -/

section
variable (xs : Dev nD → XBuf F) (c : Dev nD)

/-- The credit of the receive cells in use. -/
def rcreds : sProp 𝕄 := bigSep Finset.univ fun k : Dev nD => cred (tallyAt (recvCell c k) () (if k.val < c.val then N else 0))

/-- The table's rows go with the signals to the earlier devices and, the others, with the receive cells. -/
theorem rows_begin (f : Buf (Elt F) (cmM.view.loc (c : Thread nD τ))) :
    iprop((cmM.view.loc (c : Thread nD τ) ↦{fullShare} f) ∗ bigSep Finset.univ fun p => dutyTok ER (barCell p) 0 c)
      ⊢ (iprop(Sg c 0 ∗ bigSep Finset.univ fun k : Dev nD => if k.val < c.val then iprop(emp) else iprop(∃ f, rowPts c k f)) : sProp 𝕄) := by
  unfold Sg
  rw [← rows_all, ← bigSep_sep', ← bigSep_sep']
  refine mono_each fun p => ?_
  unfold sgRes sgPre barPay
  rw [if_neg (Nat.not_lt_zero _)]
  by_cases hp : p.val < c.val
  · rw [if_pos hp, if_pos (show p < c from hp), if_neg (fun e => by rw [e] at hp; exact Nat.lt_irrefl _ hp)]
    iintro ⟨H1, H2⟩
    isplitl
    · isplitl [H2]; · iexact H2
      iexists f; iexact H1
    iempintro
  · rw [if_neg hp, if_neg (show ¬ p < c from hp)]
    by_cases e : p = c
    · rw [if_pos e]
      iintro ⟨H1, -⟩
      isplitr; · iempintro
      iexists f; iexact H1
    · rw [if_neg e]
      iintro ⟨H1, H2⟩
      isplitl [H2]
      · isplitl; · iexact H2
        iempintro
      iexists f; iexact H1

theorem snd_start : iprop((bigSep Finset.univ fun j => atPos ER (sendCell c j) 0 ∅ 0) ∗ (bigSep Finset.univ fun j => dutyTok ER (sendCell c j) 0 0)
      ∗ bigSep Finset.univ fun j => dutyTok ER (recvCell j c) 0 0) ⊢ (bigSep Finset.univ (sndPre c) : sProp 𝕄) := by
  rw [← bigSep_sep', ← bigSep_sep']
  refine mono_each fun j => ?_
  unfold sndPre
  by_cases h : c.val < j.val
  · rw [if_pos h]
  · rw [if_neg h]
    iintro ⟨H1, -⟩
    isplitl; · iexact H1
    iempintro

theorem rc_start : iprop((bigSep Finset.univ fun k => atPos ER (recvCell c k) 0 ∅ 0) ∗ rcreds c
      ∗ bigSep Finset.univ fun k : Dev nD => if k.val < c.val then iprop(emp) else iprop(∃ f, rowPts c k f)) ⊢ (Rc xs c 0 : sProp 𝕄) := by
  unfold rcreds Rc
  rw [← bigSep_sep', ← bigSep_sep']
  refine mono_each fun k => ?_
  unfold rcRes
  rw [if_neg (Nat.not_lt_zero _)]
  by_cases h : k.val < c.val
  · rw [if_pos h, if_pos h, if_pos h]
    iintro ⟨H1, H2, -⟩
    isplitl [H1] <;> iassumption
  · rw [if_neg h, if_neg h, if_neg h]
    iintro ⟨H1, -, H2⟩
    isplitl [H1] <;> iassumption

/-- A device's buffers at the launch: the argument, the result at any contents. -/
def arrs (f : YBuf F) : sProp 𝕄 :=
  iprop((xM.view.loc (c : Thread nD τ) ↦{fullShare} (xs c)) ∗ (yM.view.loc (c : Thread nD τ) ↦{fullShare} f))

/-- What the launch makes of its gift. -/
def X : sProp 𝕄 :=
  iprop(G' c xs ∗ (cred (tallyAt (barCell c) () 15) ∗ rcreds c) ∗ levAts L lv ∗ ∃ f, arrs xs c f)
/-- What the body leaves outside the kernel's own buffers. -/
def Y : sProp 𝕄 := iprop(unscopedSems0 c ∗ arrs xs c (out2 xs c))

/-- Before and after the body. -/
def Φ₀ : sProp 𝕄 := iprop(X xs c ∗ Pipeline.scopedRest cfg0.spec c)
def Φ₁ : sProp 𝕄 := iprop(Y xs c ∗ Pipeline.ownSems0 osem c ∗ Pipeline.scopedRest cfg0.spec c)

theorem body_run {Q : PUnit → sProp 𝕄} :
    iprop(Φ₀ xs c ∗ OwS c 0 0) ⊢ iprop((Φ₁ xs c -∗ OwZ c -∗ Q ⟨⟩) -∗ Wp c (onDev cc0_body) Q) := by
  unfold Φ₀ X G' places toks lsems arrs
  rw [scopedRest0_eq, cells_kinds]
  iintro ⟨⟨⟨⟨⟨%K, #HC⟩, ⟨⟨Hpb, Hps, Hpr⟩, Htb, Hts, Htr⟩, Hin, Hout⟩, ⟨Hcb, Hcr⟩, #HL, ⟨%fy, Hx, Hy⟩⟩,
    ⟨%f0, H0⟩, ⟨%f1, H1⟩, ⟨%f2, H2⟩, ⟨%f3, H3⟩⟩, HO⟩ Hk
  ihave HG := (rows_begin c f3) $$ [H3 Htb]
  · isplitl [H3] <;> iassumption
  icases HG with ⟨HG, Hrow⟩
  ihave HS := (snd_start c) $$ [Hps Hts Htr]
  · isplitl [Hps]; · iexact Hps
    isplitl [Hts] <;> iassumption
  ihave HR := (rc_start xs c) $$ [Hpr Hcr Hrow]
  · isplitl [Hpr]; · iexact Hpr
    isplitl [Hcr] <;> iassumption
  ihave HI := (in_begin (xs c) c f0) $$ [H0 Hx Hin]
  · isplitl [H0]; · iexact H0
    isplitl [Hx] <;> iassumption
  ihave HV := (ov_begin c (xs c) f1) $$ H1
  ihave HO := (show OwS c 0 0 ⊢ (OwS c 0 1 : sProp 𝕄) from by unfold OwS; rw [Ow_send_zero]) $$ HO
  iapply (run_body xs K c) $$ HC HL HG HO HI HV [Hy Hout] [H2] [Hpb Hcb] HS HR
  · unfold Yy
    isplitl [Hy]
    · iexists fy; iexact Hy
    iexact Hout
  · unfold Tt
    iexists f2; iexact H2
  · unfold BarPre
    isplitl [Hpb]; · iexact Hpb
    iexact Hcb
  iintro - HO HI HY HT HB HS HR HTb
  ihave HI := (in_end (xs c) c) $$ HI
  icases HI with ⟨H0, Hx, Hin⟩
  ihave HY := (out_end xs c) $$ HY
  icases HY with ⟨Hy, H1, Hout⟩
  ihave HS := (snd_end xs c) $$ [HT HS]
  · isplitl [HT] <;> iassumption
  icases HS with ⟨H2, HS⟩
  unfold Φ₁ Y arrs
  rw [unscopedSems0_eq, ownSems0_eq, scopedRest0_eq]
  unfold lsems Tb
  icases HTb with ⟨%f, -, H3⟩
  iapply Hk $$ [HB Hx Hy Hin Hout HS HR H0 H1 H2 H3] HO
  isplitl [HB Hx Hy]
  · isplitl [HB]; · iexact HB
    isplitl [Hx] <;> iassumption
  isplitl [Hin Hout HS HR]
  · isplitl [Hin Hout]
    · isplitl [Hin] <;> iassumption
    isplitl [HS] <;> iassumption
  isplitl [H0]; · iexists _; iexact H0
  isplitl [H1]; · iexists _; iexact H1
  isplitl [H2]; · iexists _; iexact H2
  iexists f; iexact H3

end

/-! ## The run -/

variable (m : (ℓ : Loc nD τ sig) → Buf (Elt F) ℓ) (ρ : Dev nD → PrngReg)

/-- Every device's argument. -/
abbrev args (c : Dev nD) : XBuf F := m ((c : Thread nD τ).loc main_arg0)

def dats : (_ : Fin 1) → (c : Dev nD) → Dat τ (Elt F) Unit ℕ UU ℕ cfg0 c := fun _ c =>
  { A := fun w => w.elim0
    after := fun w => w.elim0
    Φ := fun t => match t with | ⟨0, _⟩ => Φ₀ (args m) c | ⟨_ + 1, _⟩ => Φ₁ (args m) c
    q := fun w => w.elim0
    owed := fun t => match t with | ⟨0, _⟩ => O₀ c | ⟨_ + 1, _⟩ => 0 }

variable (c : Dev nD)

theorem body_obligation : BodyObligation (dats (F := F) m 0 c) (defs₀ (F := F)) 𝒱₀ () Set.univ := fun t => by
  rw [fin_N0 t]
  rw [Finset.univ_eq_empty, bigSep_empty, bigSep_empty]
  unfold Dat.owesAt Pipeline.owesWithin
  show iprop(Φ₀ (args m) c ∗ (∃ W, ⌜_⌝ ∗ owes (c : Thread nD τ) (Ow c 0 0) W) ∗ emp) ⊢ Wp c (onDev cc0_body)
    (fun _ => iprop(Φ₁ (args m) c ∗ (∃ W, ⌜_⌝ ∗ owes (c : Thread nD τ) 0 W) ∗ emp))
  iintro ⟨HΦ, ⟨%W, %hW, HO⟩, -⟩
  iapply (body_run (args m) c) $$ [HΦ HO]
  · isplitl [HΦ]; · iexact HΦ
    unfold OwS
    iexists W; iexact HO
  iintro HΦ HO
  unfold OwZ
  icases HO with ⟨%V, HO⟩
  isplitl [HΦ]; · iexact HΦ
  isplitl
  · iexists V
    isplitr; · ipureintro; exact fun _ _ => Or.inl trivial
    iexact HO
  iempintro

theorem share_eq (w : Fin cfg0.W) : (dats m 0 c).share w = fullShare := w.elim0

theorem start_intro :
    iprop(Pipeline.unscopedRestP Pipeline.Prefetch.none cfg0.spec c (fun b => m ((c : Thread nD τ).loc b)) ∗ levAts L lv
        ∗ Pipeline.launchCred O₀ c ∗ prngReg c (ρ c) ∗ G' c (args m))
      ⊢ |={Set.univ}=> (iprop(X (args m) c ∗ emp) : sProp 𝕄) := by
  rw [Pipeline.unscopedRestP_none, unscopedRest0_eq]
  unfold X arrs rcreds
  iintro ⟨⟨Hx, Hy⟩, Hlev, Hcr, -, HG⟩
  ihave Hc := (creds (F := F) c) $$ Hcr
  imodintro
  isplitl
  · isplitl [HG]; · iexact HG
    isplitl [Hc]; · iexact Hc
    isplitl [Hlev]; · iexact Hlev
    iexists _
    isplitl [Hx]; · iexact Hx
    iexact Hy
  · iempintro

theorem phi0_intro :
    iprop(X (args m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (args m) c from rfl]
  unfold Φ₀
  iintro ⟨Hs, -, Hr⟩
  isplitl [Hs] <;> iassumption

theorem phi1_exit : (dats m 0 c).Φ (Fin.last cfg0.N) ⊢ iprop(Y (args m) c ∗ Pipeline.ownSems0 osem c ∗ Pipeline.scopedRest cfg0.spec c) := by
  rw [show (dats m 0 c).Φ (Fin.last cfg0.N) = Φ₁ (args m) c from rfl]
  exact Entails.refl _

/-- What a device's end says of the memory. -/
def Ends (s : MemSt nD τ sig (Elt F)) : Prop :=
  s.mem ((c : Thread nD τ).loc main_arg0) = args m c ∧ s.mem ((c : Thread nD τ).loc main_v1) = out2 (args m) c

theorem read_end (s : Phys nD τ sig (Elt F)) :
    iprop(Y (args m) c ∗ emp ∗ SI s) ⊢ (|={Set.univ}=> iprop(⌜Ends m c s.mem ∧ ∀ sm : SemLoc sig, sm.isScoped .tc = false → s.mem.sem ((c.tc : Thread nD τ), sm) = 0⌝ ∗ SI s) : sProp 𝕄) := by
  unfold Y arrs
  iintro ⟨⟨Hu, Hx, Hy⟩, -, HSI⟩
  ihave %hx := (SI_pointsTo_agree) $$ [HSI Hx]
  · isplitl [HSI] <;> iassumption
  ihave %hy := (SI_pointsTo_agree) $$ [HSI Hy]
  · isplitl [HSI] <;> iassumption
  imod (Pipeline.unscopedSems0_read (X := unscopedSems0 c) (c := c) fupd_intro s) $$ [Hu HSI] with ⟨%hs, HSI⟩
  · isplitl [Hu] <;> iassumption
  imodintro
  isplitr
  · ipureintro
    exact ⟨⟨funext fun i => hx i (Finset.mem_univ _), funext fun i => hy i (Finset.mem_univ _)⟩, hs⟩
  iexact HSI

set_option maxRecDepth 8000 in
/-- From any memory, at any float values: the run ends, the argument is as it was, the result is `out2`, and every
    semaphore is at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := fun c => G c (args m)) (G' := fun c => G' c (args m)) (u₀ := u₀)
    (hu₀ := by
      unfold u₀
      iintro Hu
      ihave H := (ownU_pair _ _) $$ Hu
      icases H with ⟨HP, HX⟩
      imod (fund (args m)) $$ [HX] with HG
      · iexact HX
      imodintro
      isplitl [HP] <;> iassumption)
    (hglob := glob (args m))
    (hA := fun _ w => w.elim0) (hpf := fun _ k => k.elim0)
    (X := X (args m)) (Y := Y (args m)) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.Scan

end
-- ==== Proof.Frames.lean ====
/-
# `Frames` — the three programs end, and leave their arguments and every semaphore as they were

The kernel's program is the same text at bits and at extended reals, so one run (`run_main`, at any float values)
gives both of its frames. The reference has no semaphore.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Scan

open Idealize.ShloMosaic Idealize.ShloMosaic.TcCoe Idealize.SL.Sem

theorem frame_kernel : Cert.quiescent_Kernel := fun m ρ _ =>
  (θ_run Cert.KernelIdeal.defs _ _).mono (fun _ h => ⟨fun c => (h.1 c).1, h.2⟩) (run_main (F := Bits) m ρ)

theorem frame_ideal : Cert.quiescent_KernelIdeal := fun m ρ _ =>
  (θ_run Cert.KernelIdeal.defs _ _).mono (fun _ h => ⟨fun c => (h.1 c).1, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Scan

end
-- ==== Proof.Value.lean ====
/-
# `Value` — the kernel's result at extended reals, as sums

At extended reals the casts are the identity, a product by the lower triangular matrix of ones is a running
sum, and a reduction is a sum. So each closed form of `Contents` is a sum over an initial segment of rows
(`pre`): `cs` within a block, `off` and `totC` of what lies before a block or a chunk, `out1` the running sum of
the device's block, `total` the sum of it all, and `out2` that running sum with the totals of the devices before
added.
-/
module

public import proofs.«01_k».proof.Proof.Table
public import Idealize.ShloMosaic.Lib.Pointwise
public import Idealize.ShloMosaic.Lib.MatmulPlain

@[expose] public section

noncomputable section

namespace Cert.Scan

open Cert.KernelIdeal Cert.KernelIdeal.Gen
open Idealize.ShloMosaic

/-! ## The stored values, element by element -/

/-- Row `r` of the matrix has ones up to column `r`. -/
theorem pay1_apply (r k : Fin 128) : k0_pay1 (F := Ideal) (ix2 r k) = if k.val ≤ r.val then (1 : EReal) else 0 := by
  unfold k0_pay1
  simp only [pointwise]
  have key : ∀ r k : Fin 128, BitVec.setWidth 32 (IntOp.cmpi CmpIPredicate.sge (BitVec.ofNat 32 (0 * 128 + r.val))
      (BitVec.ofNat 32 (0 * 128 + k.val))) = if k.val ≤ r.val then 1#32 else 0#32 := by decide +kernel
  refine (congrArg (fun b : BitVec 32 => ((b.toInt : ℝ) : EReal)) (key r k)).trans ?_
  split <;> simp

theorem pay8_apply (t : FVec Ideal S128x128 .bf16) (v : Vec Ideal S128x1024 .f32) (r : Fin 128) (j : Fin 1024) :
    k0_pay8 t v (ix2 r j) = ∑ k : Fin 128, (t (ix2 r k) : EReal) * (v (ix2 k j) : EReal) := by
  unfold k0_pay8
  simp only [pointwise]
  exact zero_add _

theorem pay7_apply (o : FVec Ideal S1x1024 .f32) (v : FVec Ideal S128x1024 .f32) (j : Fin 1024) :
    k0_pay7 o v (ix2 0 j) = (o (ix2 0 j) : EReal) + v (ix2 ⟨127, by decide⟩ j) := by
  unfold k0_pay7
  simp only [pointwise]
  exact congrArg (fun q => (o (ix2 0 j) : EReal) + v (ix2 127 q)) (Fin.ext (Nat.zero_add _))

theorem pay11_apply (o : FVec Ideal S1x1024 .f32) (v : Vec Ideal S256x1024 .f32) (j : Fin 1024) :
    k0_pay11 o v (ix2 0 j) = (o (ix2 0 j) : EReal) + ∑ k : Fin 256, (v (ix2 k j) : EReal) := by
  unfold k0_pay11
  simp only [pointwise]

theorem pay114_apply (o : FVec Ideal S1x1024 .f32) (v : Vec Ideal S256x1024 .f32) (j : Fin 1024) :
    k0_pay114 o v (ix2 0 j) = (o (ix2 0 j) : EReal) + ∑ k : Fin 256, (v (ix2 k j) : EReal) := by
  unfold k0_pay114
  simp only [pointwise]

theorem pay16_apply (t : FVec Ideal S128x128 .bf16) (o : FVec Ideal S1x1024 .f32) (v : Vec Ideal S128x1024 .f32)
    (r : Fin 128) (j : Fin 1024) : k0_pay16 t o v (ix2 r j) = (k0_pay8 t v (ix2 r j) : EReal) + o (ix2 0 j) := by
  unfold k0_pay16
  simp only [pointwise]
  rfl

theorem pay118_apply (w : BitVec 32) (T : Vec Ideal S16x1024 .f32) (j : Fin 1024) :
    k0_pay118 w T (ix2 0 j) =
      ∑ p : Fin 16, if Scalar.cmpi .slt (BitVec.ofNat 32 p.val) w = 1#1 then (T (ix2 p j) : EReal) else 0 := by
  unfold k0_pay118
  simp only [pointwise]
  refine Finset.sum_congr rfl fun p _ => ?_
  have e : List.foldl (fun n a => n * ![16, 1024] a + (ix2 p j a).val) 0 [(0 : Fin 2)] = p.val := Nat.zero_add _
  show Scalar.select (Scalar.cmpi .slt (BitVec.ofNat 32 (List.foldl (fun n a => n * ![16, 1024] a + (ix2 p j a).val) 0 [(0 : Fin 2)])) w)
    (T (ix2 p j)) (0 : EReal) = _
  rw [e]
  rfl

theorem pay122_apply (o : FVec Ideal S1x1024 .bf16) (v : Vec Ideal S256x1024 .bf16) (r : Fin 256) (j : Fin 1024) :
    k0_pay122 o v (ix2 r j) = (v (ix2 r j) : EReal) + o (ix2 0 j) := by
  unfold k0_pay122
  simp only [pointwise]
  rfl

theorem pay2_apply (i : S1x1024.Idx) : k0_pay2 (F := Ideal) i = (0 : EReal) := Ideal.ofBits_zero_f32

/-! ## Sums of initial segments of rows -/

/-- Column `j` of a block, continued by zeros. -/
def col (x : XBuf Ideal) (j : Fin 1024) (n : ℕ) : EReal := if h : n < 4096 then x (ix2 ⟨n, h⟩ j) else 0

/-- The sum of the first `n` rows, in column `j`. -/
def pre (x : XBuf Ideal) (j : Fin 1024) (n : ℕ) : EReal := ∑ k ∈ Finset.range n, col x j k

/-- The first `n` rows and `l` more. -/
theorem pre_add (x : XBuf Ideal) (j : Fin 1024) (n l : ℕ) :
    pre x j n + ∑ k ∈ Finset.range l, col x j (n + k) = pre x j (n + l) := (Finset.sum_range_add _ _ _).symm

/-- Ones up to `r` pick out the first `r + 1` terms. -/
theorem sum_upto {n : ℕ} (r : Fin n) (f : ℕ → EReal) :
    ∑ k : Fin n, (if k.val ≤ r.val then (1 : EReal) else 0) * f k.val = ∑ k ∈ Finset.range (r.val + 1), f k := by
  rw [Fin.sum_univ_eq_sum_range (fun k => (if k ≤ r.val then (1 : EReal) else 0) * f k) n]
  simp only [ite_mul, one_mul, zero_mul]
  rw [← Finset.sum_filter]
  refine Finset.sum_congr (Finset.ext fun k => ?_) fun _ _ => rfl
  have := r.isLt
  simp only [Finset.mem_filter, Finset.mem_range]
  omega

theorem blk_apply (x : XBuf Ideal) (g : Fin 32) (r : Fin 128) (j : Fin 1024) :
    blk x g (ix2 r j) = col x j (128 * g.val + r.val) := by
  have h : 128 * g.val + r.val < 4096 := by omega
  unfold col
  rw [dif_pos h]
  refine congrArg x (funext fun a => Fin.ext ?_)
  match a with
  | ⟨0, _⟩ => show 128 * g.val + 1 * r.val = _; rw [Nat.one_mul]; rfl
  | ⟨1, _⟩ => show 0 + 1 * j.val = j.val; omega

theorem chk_apply (x : XBuf Ideal) (k : Fin 16) (r : Fin 256) (j : Fin 1024) :
    chk x k (ix2 r j) = col x j (256 * k.val + r.val) := by
  have h : 256 * k.val + r.val < 4096 := by omega
  unfold col
  rw [dif_pos h]
  refine congrArg x (funext fun a => Fin.ext ?_)
  match a with
  | ⟨0, _⟩ => show 256 * k.val + 1 * r.val = _; rw [Nat.one_mul]; rfl
  | ⟨1, _⟩ => show 0 + 1 * j.val = j.val; omega

theorem cs_apply (x : XBuf Ideal) (g : Fin 32) (r : Fin 128) (j : Fin 1024) :
    cs x g (ix2 r j) = ∑ k ∈ Finset.range (r.val + 1), col x j (128 * g.val + k) := by
  refine (pay8_apply _ _ r j).trans (Eq.trans (Finset.sum_congr rfl fun k _ => ?_) (sum_upto r fun k => col x j (128 * g.val + k)))
  rw [pay1_apply, blk_apply]

theorem off_apply (x : XBuf Ideal) (j : Fin 1024) : ∀ g, g ≤ 32 → off x g (ix2 0 j) = pre x j (128 * g)
  | 0, _ => (pay2_apply _).trans (Finset.sum_range_zero _).symm
  | g + 1, h => by
    have e : (Fin.ofNat 32 g).val = g := Nat.mod_eq_of_lt h
    refine (pay7_apply _ _ j).trans ?_
    rw [off_apply x j g (by omega), cs_apply, e]
    exact pre_add x j (128 * g) 128

theorem sum_chk (x : XBuf Ideal) (j : Fin 1024) (k : Fin 16) :
    ∑ r : Fin 256, (chk x k (ix2 r j) : EReal) = ∑ r ∈ Finset.range 256, col x j (256 * k.val + r) :=
  (Finset.sum_congr rfl fun r _ => chk_apply x k r j).trans
    (Fin.sum_univ_eq_sum_range (fun r => col x j (256 * k.val + r)) 256)

theorem totC_apply (x : XBuf Ideal) (j : Fin 1024) : ∀ k, k ≤ 16 → totC x k (ix2 0 j) = pre x j (256 * k)
  | 0, _ => (pay2_apply _).trans (Finset.sum_range_zero _).symm
  | k + 1, h => by
    have e : (Fin.ofNat 16 k).val = k := Nat.mod_eq_of_lt h
    refine (pay11_apply _ _ j).trans ?_
    rw [totC_apply x j k (by omega), sum_chk, e]
    exact pre_add x j (256 * k) 256

/-- A device's total is the sum of its rows. -/
theorem total_apply (x : XBuf Ideal) (j : Fin 1024) : total x (ix2 0 j) = pre x j 4096 := by
  refine (pay114_apply _ _ j).trans ?_
  rw [totC_apply x j 15 (by decide), sum_chk]
  exact pre_add x j (256 * 15) 256

/-- The first pass leaves the running sums of the device's own block. -/
theorem out1_apply (x : XBuf Ideal) (i : S4096x1024.Idx) : out1 x i = pre x ⟨(i 1).val, (i 1).isLt⟩ ((i 0).val + 1) := by
  refine (pay16_apply _ _ _ _ _).trans ?_
  rw [off_apply x _ _ (Nat.le_of_lt (blkOf i).isLt), show k0_pay8 (k0_pay1 (F := Ideal)) (blk x (blkOf i)) = cs x (blkOf i) from rfl,
    cs_apply, add_comm, pre_add]
  refine congrArg (pre x _) ?_
  show 128 * ((i 0).val / 128) + ((i 0).val % 128 + 1) = _
  omega

/-- The totals of the devices before `c`. -/
theorem off16_apply (xs : Dev nD → XBuf Ideal) (c : Dev nD) (j : Fin 1024) :
    off16 xs c (ix2 0 j) = ∑ p : Fin 16, if p.val < c.val then pre (xs p) j 4096 else 0 := by
  refine (pay118_apply _ _ j).trans (Finset.sum_congr rfl fun p _ => ?_)
  rw [if_congr (slt_me c p) rfl rfl]
  exact congrArg (fun v : EReal => if p.val < c.val then v else 0) (total_apply (xs p) j)

/-- The result: the running sums of the device's block, with the totals of the devices before it. -/
theorem out2_apply (xs : Dev nD → XBuf Ideal) (c : Dev nD) (r : Fin 4096) (j : Fin 1024) :
    out2 xs c (ix2 r j) =
      pre (xs c) j (r.val + 1) + ∑ p : Fin 16, if p.val < c.val then pre (xs p) j 4096 else 0 := by
  refine (pay122_apply _ _ _ _).trans ?_
  rw [off16_apply]
  refine congrArg (· + _) ((out1_apply (xs c) _).trans ?_)
  refine congrArg₂ (pre (xs c)) (Fin.ext ?_) (congrArg (· + 1) ?_)
  · show 0 + 1 * j.val = j.val
    omega
  · show 256 * (r.val / 256) + 1 * (r.val % 256) = r.val
    omega

end Cert.Scan

end
-- ==== Proof.Algebra.lean ====
/-
# `Algebra` — the kernel's blocks are the reference's

The reference adds up, for every row, a window that reaches from that row to the top of the array: the running
sum. A running sum at row `4096 c + r` is the sums of the `c` blocks above and the running sum at row `r` of
block `c`, which is what device `c` leaves (`out2_apply`). Sums of extended reals may be cut and regrouped as
they stand, so nothing is asked of the argument.
-/
module

public import proofs.«01_k».proof.Defs
public import proofs.«01_k».proof.Proof.Launch
public import proofs.«01_k».proof.Proof.Value
public import proofs.«01_k».proof.Proof.Gen.ReferenceIdeal.Run
public import Idealize.ShloMosaic.Lib.Routing.OpsOne

@[expose] public section

noncomputable section

namespace Cert.Scan

open Idealize.ShloMosaic Idealize.ShloMosaic.TcCoe Idealize.SL.Sem

/-! ## The reference's window -/

/-- Adding terms one after another is their sum. -/
theorem foldl_add_eq {ι : Type} (l : List ι) (g : ι → EReal) (a : EReal) :
    l.foldl (fun r n => r + g n) a = a + (l.map g).sum := by
  induction l generalizing a with
  | nil => exact (add_zero a).symm
  | cons n l ih => rw [List.foldl_cons, ih, List.map_cons, List.sum_cons, add_assoc]

/-- A window as tall as the array, ending at row `R`, holds the rows up to `R`. -/
theorem sum_window_rows {N R : ℕ} (hR : R ≤ N) (f : ℕ → EReal) :
    ∑ n ∈ Finset.range (N + 1), (if N ≤ R + n then f (R + n - N) else 0) = ∑ k ∈ Finset.range (R + 1), f k := by
  rw [show N + 1 = (N - R) + (R + 1) by omega, Finset.sum_range_add, Finset.sum_eq_zero, zero_add]
  · refine Finset.sum_congr rfl fun k _ => ?_
    rw [if_pos (by omega), show R + (N - R + k) - N = k by omega]
  · intro n hn
    have := Finset.mem_range.mp hn
    rw [if_neg (by omega)]

/-- A column of an array of `M` rows, continued by zeros. -/
def wcol {M C : ℕ} (x : (⟨2, ![M, C]⟩ : Shape).Idx → EReal) (j : Fin C) (n : ℕ) : EReal :=
  if h : n < M then x (ix2 ⟨n, h⟩ j) else 0

/-- The reference's sum over windows is the running sum down each column. -/
theorem window_apply {N M C : ℕ} (hM : N + 1 = M) (x : (⟨2, ![M, C]⟩ : Shape).Idx → EReal)
    (h : (⟨2, ![M, C]⟩ : Shape).ReduceWindows (![M, 1] : Fin 2 → ℕ) ![1, 1] ![N, 0] ![0, 0] ⟨2, ![M, C]⟩)
    (R : Fin M) (j : Fin C) :
    Ideal.hostReduceWindowAdd ![M, 1] ![1, 1] ![N, 0] ![0, 0] h x 0 (ix2 R j) =
      ∑ k ∈ Finset.range (R.val + 1), wcol x j k := by
  subst hM
  have hR := R.isLt
  have hj := j.isLt
  refine Eq.trans (foldl_add_eq _ _ _) ?_
  rw [zero_add, ← Fin.sum_univ_def, ← sum_window_rows (N := N) (by omega),
    ← Fin.sum_univ_eq_sum_range (fun n => if N ≤ R.val + n then wcol x j (R.val + n - N) else 0) (N + 1),
    ← Equiv.sum_comp (finCongr (Routing.numel_col (N + 1)))]
  refine Finset.sum_congr rfl fun n _ => ?_
  have e0 : ((⟨2, ![N + 1, 1]⟩ : Shape).rowMajor.symm n 0).val = n.val := by rw [Routing.symm_col]; rfl
  have e1 : ((⟨2, ![N + 1, 1]⟩ : Shape).rowMajor.symm n 1).val = 0 := by rw [Routing.symm_col]; rfl
  have hw : n.val < N + 1 := (finCongr (Routing.numel_col (N + 1)) n).isLt
  show _ = if N ≤ R.val + n.val then wcol x j (R.val + n.val - N) else 0
  by_cases hle : N ≤ R.val + n.val
  · rw [if_pos hle, dif_pos]
    · unfold wcol
      rw [dif_pos (by omega)]
      refine congrArg x (funext fun a => Fin.ext ?_)
      match a with
      | ⟨0, _⟩ => show R.val * 1 + ((⟨2, ![N + 1, 1]⟩ : Shape).rowMajor.symm n 0).val - N = R.val + n.val - N; rw [e0, Nat.mul_one]
      | ⟨1, _⟩ => show j.val * 1 + ((⟨2, ![N + 1, 1]⟩ : Shape).rowMajor.symm n 1).val - 0 = j.val; rw [e1]; omega
    · intro a
      match a with
      | ⟨0, _⟩ =>
        show N ≤ R.val * 1 + ((⟨2, ![N + 1, 1]⟩ : Shape).rowMajor.symm n 0).val ∧
          R.val * 1 + ((⟨2, ![N + 1, 1]⟩ : Shape).rowMajor.symm n 0).val - N < N + 1
        rw [e0]
        omega
      | ⟨1, _⟩ =>
        show 0 ≤ j.val * 1 + ((⟨2, ![N + 1, 1]⟩ : Shape).rowMajor.symm n 1).val ∧
          j.val * 1 + ((⟨2, ![N + 1, 1]⟩ : Shape).rowMajor.symm n 1).val - 0 < C
        rw [e1]
        omega
  · rw [if_neg hle, dif_neg]
    intro hin
    have h0 : N ≤ R.val * 1 + ((⟨2, ![N + 1, 1]⟩ : Shape).rowMajor.symm n 0).val := (hin 0).1
    rw [e0] at h0
    omega

/-! ## Cutting a running sum into blocks -/

/-- The terms below `c`. -/
theorem sum_below {n c : ℕ} (hc : c ≤ n) (f : ℕ → EReal) :
    ∑ p : Fin n, (if p.val < c then f p.val else 0) = ∑ p ∈ Finset.range c, f p := by
  rw [Fin.sum_univ_eq_sum_range (fun p => if p < c then f p else 0) n, ← Finset.sum_filter]
  refine Finset.sum_congr (Finset.ext fun k => ?_) fun _ _ => rfl
  simp only [Finset.mem_filter, Finset.mem_range]
  omega

/-- The first `c` blocks of `L` terms are the first `L c` terms. -/
theorem sum_blocks (L : ℕ) (f : ℕ → EReal) (c : ℕ) :
    ∑ p ∈ Finset.range c, ∑ k ∈ Finset.range L, f (L * p + k) = ∑ k ∈ Finset.range (L * c), f k := by
  induction c with
  | zero => rfl
  | succ c ih => rw [Finset.sum_range_succ, ih, Nat.mul_succ, Finset.sum_range_add]

/-- The whole argument. -/
abbrev Whole : Type := (⟨2, ![65536, 1024]⟩ : Shape).Idx → EReal

/-- Row `k` of block `c` is row `4096 c + k` of the whole. -/
theorem col_block (x : XBuf Ideal) (X : Whole) (c : Fin 16)
    (hx : x = Layout.block ⟨2, ![4096, 1024]⟩ ⟨2, ![65536, 1024]⟩ 0 16 c X) (j : Fin 1024) {k : ℕ} (hk : k < 4096) :
    col x j k = wcol X j (4096 * c.val + k) := by
  unfold col wcol
  rw [dif_pos hk, dif_pos (by omega), hx]
  refine congrArg X (funext fun a => Fin.ext ?_)
  match a with
  | ⟨0, _⟩ => show c.val * 4096 + k = 4096 * c.val + k; omega
  | ⟨1, _⟩ => rfl

theorem pre_block (x : XBuf Ideal) (X : Whole) (c : Fin 16)
    (hx : x = Layout.block ⟨2, ![4096, 1024]⟩ ⟨2, ![65536, 1024]⟩ 0 16 c X) (j : Fin 1024) {n : ℕ} (hn : n ≤ 4096) :
    pre x j n = ∑ k ∈ Finset.range n, wcol X j (4096 * c.val + k) :=
  Finset.sum_congr rfl fun k hk => col_block x X c hx j (by have := Finset.mem_range.mp hk; omega)

/-- What device `c` leaves at row `r` is the running sum of the whole at row `4096 c + r`. -/
theorem out2_whole (xs : Dev Cert.KernelIdeal.nD → XBuf Ideal) (X : Whole)
    (hx : ∀ c : Fin 16, xs c = Layout.block ⟨2, ![4096, 1024]⟩ ⟨2, ![65536, 1024]⟩ 0 16 c X) (c : Fin 16) (r : Fin 4096) (j : Fin 1024) :
    out2 xs c (ix2 r j) = ∑ k ∈ Finset.range (4096 * c.val + r.val + 1), wcol X j k := by
  have e : ∀ p : Fin 16, pre (xs p) j 4096 = ∑ k ∈ Finset.range 4096, wcol X j (4096 * p.val + k) :=
    fun p => pre_block _ X p (hx p) j (Nat.le_refl _)
  rw [out2_apply, pre_block _ X c (hx c) j (by omega)]
  simp only [e]
  rw [sum_below (n := 16) (c := c.val) (by omega) fun p => ∑ k ∈ Finset.range 4096, wcol X j (4096 * p + k), sum_blocks, add_comm,
    ← Finset.sum_range_add, Nat.add_assoc]

/-- The reference's result is the running sum down each column. -/
theorem ref_apply (X : Whole) (R : Fin (65536)) (j : Fin 1024) :
    (truncf .bf16 (Host.reduceWindowAdd (F := Ideal) (φ := .f32) ![65536, 1] ![1, 1] ![65535, 0] ![0, 0] X
      (broadcastInDim Cert.ReferenceIdeal.S_ ![] Cert.ReferenceIdeal.Gen.bcast_S_S_ (constant Cert.ReferenceIdeal.S_ .f32 0x00000000#32))
      Cert.ReferenceIdeal.Gen.reduceWindows_S65536x1024_S65536x1024_w65536s1p65535_0_w1s1p0_0 Cert.ReferenceIdeal.Gen.h_S_)
      Cert.ReferenceIdeal.Gen.bitsLt_bf16_f32) (ix2 R j) = ∑ k ∈ Finset.range (R.val + 1), wcol X j k := by
  refine Eq.trans ?_ (window_apply (N := 65535) rfl X Cert.ReferenceIdeal.Gen.reduceWindows_S65536x1024_S65536x1024_w65536s1p65535_0_w1s1p0_0 R j)
  have ez : broadcastInDim Cert.ReferenceIdeal.S_ ![] Cert.ReferenceIdeal.Gen.bcast_S_S_
      (constant (F := Ideal) Cert.ReferenceIdeal.S_ .f32 0x00000000#32) (Shape.Idx.first Cert.ReferenceIdeal.Gen.h_S_) = (0 : EReal) :=
    Ideal.ofBits_zero_f32
  simp only [pointwise]
  unfold Host.reduceWindowAdd
  rw [ez, Ideal.hostReduceWindowAdd_def]

/-! ## The claim -/

theorem algebraic : Cert.algebraic_KernelIdeal_ReferenceIdeal := by
  intro m g m' g' _ hm
  refine ⟨_, (θ_run Cert.KernelIdeal.defs _ _).mono (fun _ h c => ⟨(h.1 c).2.trans ?_, (h.1 c).1⟩) (run_main (F := Ideal) m g),
    (θ_run Cert.ReferenceIdeal.defs _ _).mono (fun _ h => h 0) (Cert.ReferenceIdeal.Value.run (F := Ideal) m' g')⟩
  funext i
  have hr : (i 0).val < 4096 := (i 0).isLt
  have hc : c.val < 16 := c.isLt
  have ei : i = ix2 (⟨(i 0).val, (i 0).isLt⟩ : Fin 4096) (⟨(i 1).val, (i 1).isLt⟩ : Fin 1024) := funext fun a => by
    match a with
    | ⟨0, _⟩ => rfl
    | ⟨1, _⟩ => rfl
  have hk := (congrArg (out2 (args m) c) ei).trans (out2_whole (args m) _ (fun c => hm c) c _ _)
  have hw := ref_apply (m' (((0 : Dev Cert.ReferenceIdeal.nD).tc : Thread _ _).loc Cert.ReferenceIdeal.main_arg0))
    ⟨4096 * c.val + (i 0).val, by omega⟩ ⟨(i 1).val, (i 1).isLt⟩
  refine hk.trans (hw.symm.trans ?_)
  rw [Layout.block_apply]
  refine congrArg _ (funext fun a => Fin.ext ?_)
  match a with
  | ⟨0, _⟩ => show 4096 * c.val + (i 0).val = c.val * 4096 + (i 0).val; omega
  | ⟨1, _⟩ => rfl

end Cert.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Scan.frame_kernel, Cert.Scan.frame_ideal, Cert.Scan.frame_reference, trivial, Cert.Scan.algebraic⟩

end Cert.Proof

end
